-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_v177) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S4x32x128x128 : Shape := ⟨4, ![4, 32, 128, 128]⟩
abbrev S1024x32 : Shape := ⟨2, ![1024, 32]⟩
abbrev S_ : Shape := ⟨0, ![]⟩

class Facts : Prop where
  bcast_S_S4x32x128x128 : S_.BroadcastsInDim S4x32x128x128 (![] : Fin 0 → Fin S4x32x128x128.rank)

variable [Facts]

def fn {F : FTy → Type} [FloatOps F] (main_arg0 : FVec F S4x32x128x128 .f32) (main_arg1 : FVec F S1024x32 .f32) : IVec S4x32x128x128 1 :=
  let main_v0 : FVec F S4x32x128x128 .f32 := Host.absf main_arg0
  let main_cst : FVec F S_ .f32 := constant S_ .f32 0x7F800000#32
  let main_v1 : FVec F S4x32x128x128 .f32 := broadcastInDim S4x32x128x128 ![] bcast_S_S4x32x128x128 main_cst
  let main_v2 : IVec S4x32x128x128 1 := cmpf .olt main_v0 main_v1
  main_v2
-- ==== Kernel.lean ====
abbrev S4x32x128x128 : Shape := ⟨4, ![4, 32, 128, 128]⟩
abbrev S1024x32 : Shape := ⟨2, ![1024, 32]⟩
abbrev S4x128x128x32 : Shape := ⟨4, ![4, 128, 128, 32]⟩
abbrev S65536x32 : Shape := ⟨2, ![65536, 32]⟩
abbrev S32x1024 : Shape := ⟨2, ![32, 1024]⟩
abbrev S6x65536 : Shape := ⟨2, ![6, 65536]⟩
abbrev S1x1 : Shape := ⟨2, ![1, 1]⟩
abbrev S6x1024 : Shape := ⟨2, ![6, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩
abbrev S1x1024x32 : Shape := ⟨3, ![1, 1024, 32]⟩
abbrev S1 : Shape := ⟨1, ![1]⟩
abbrev S1x1x1 : Shape := ⟨3, ![1, 1, 1]⟩
abbrev S_ : Shape := ⟨0, ![]⟩

abbrev nBuf : Space → Nat
  | .hbm => 13
  | .vmem => 9
  | .smem => 0
  | _ => 0

abbrev bufTy : (tb : Table) → Fin (tcTables nBuf tb) → BufTy
  | .hbm, ⟨0, _⟩ => ⟨S4x32x128x128, .f32⟩
  | .hbm, ⟨1, _⟩ => ⟨S1024x32, .f32⟩
  | .hbm, ⟨2, _⟩ => ⟨S4x128x128x32, .f32⟩
  | .hbm, ⟨3, _⟩ => ⟨S65536x32, .f32⟩
  | .hbm, ⟨4, _⟩ => ⟨S32x1024, .f32⟩
  | .hbm, ⟨5, _⟩ => ⟨S65536x32, .f32⟩
  | .hbm, ⟨6, _⟩ => ⟨S6x65536, .i32⟩
  | .hbm, ⟨7, _⟩ => ⟨S1x1, .f32⟩
  | .hbm, ⟨8, _⟩ => ⟨S4x128x128x32, .f32⟩
  | .hbm, ⟨9, _⟩ => ⟨S4x32x128x128, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x32, .f32⟩
  | .local _ .vmem, ⟨1, _⟩ => ⟨S1024x32, .f32⟩
  | .local _ .vmem, ⟨2, _⟩ => ⟨S32x1024, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | .local _ .vmem, ⟨6, _⟩ => ⟨S6x1024, .i32⟩
  | .local _ .vmem, ⟨7, _⟩ => ⟨S6x1024, .i32⟩
  | .local _ .vmem, ⟨8, _⟩ => ⟨S1x1, .f32⟩
  | _, _ => ⟨S4x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4x32x128x128 : Shape := ⟨4, ![4, 32, 128, 128]⟩
abbrev S1024x32 : Shape := ⟨2, ![1024, 32]⟩
abbrev S4x128x128x32 : Shape := ⟨4, ![4, 128, 128, 32]⟩
abbrev S65536x32 : Shape := ⟨2, ![65536, 32]⟩
abbrev S_ : Shape := ⟨0, ![]⟩
abbrev S1024 : Shape := ⟨1, ![1024]⟩
abbrev S65536 : Shape := ⟨1, ![65536]⟩
abbrev S65536x1 : Shape := ⟨2, ![65536, 1]⟩
abbrev S1x1024 : Shape := ⟨2, ![1, 1024]⟩
abbrev S65536x1024 : Shape := ⟨2, ![65536, 1024]⟩
abbrev S32x1024 : Shape := ⟨2, ![32, 1024]⟩
abbrev S1 : Shape := ⟨1, ![1]⟩
abbrev S1x1 : Shape := ⟨2, ![1, 1]⟩
abbrev S1x65536 : Shape := ⟨2, ![1, 65536]⟩
abbrev S6x65536 : Shape := ⟨2, ![6, 65536]⟩

abbrev nBuf : Space → Nat
  | .hbm => 381
  | .vmem => 0
  | .smem => 0
  | _ => 0

abbrev hbmTy0_0 (i : Nat) : BufTy := match i % 128 with
  | 0 => ⟨S4x32x128x128, .f32⟩
  | 1 => ⟨S1024x32, .f32⟩
  | 2 => ⟨S4x128x128x32, .f32⟩
  | 3 => ⟨S65536x32, .f32⟩
  | 4 => ⟨S_, .f32⟩
  | 5 => ⟨S65536x32, .f32⟩
  | 6 => ⟨S1024x32, .f32⟩
  | 7 => ⟨S_, .f32⟩
  | 8 => ⟨S1024, .f32⟩
  | 9 => ⟨S65536x32, .f32⟩
  | 10 => ⟨S_, .f32⟩
  | 11 => ⟨S65536, .f32⟩
  | 12 => ⟨S65536x1, .f32⟩
  | 13 => ⟨S1x1024, .f32⟩
  | 14 => ⟨S65536x1024, .f32⟩
  | 15 => ⟨S65536x1024, .f32⟩
  | 16 => ⟨S65536x1024, .f32⟩
  | 17 => ⟨S_, .f32⟩
  | 18 => ⟨S65536x32, .f32⟩
  | 19 => ⟨S65536x32, .f32⟩
  | 20 => ⟨S32x1024, .f32⟩
  | 21 => ⟨S65536x1024, .f32⟩
  | 22 => ⟨S65536x1024, .f32⟩
  | 23 => ⟨S65536x1024, .i32⟩
  | 24 => ⟨S_, .f32⟩
  | 25 => ⟨S_, .i32⟩
  | 26 => ⟨S65536, .f32⟩
  | 27 => ⟨S65536, .i32⟩
  | 28 => ⟨S_, .i32⟩
  | 29 => ⟨S65536, .i32⟩
  | 30 => ⟨S65536, .i1⟩
  | 31 => ⟨S_, .i32⟩
  | 32 => ⟨S65536, .i32⟩
  | 33 => ⟨S65536, .i32⟩
  | 34 => ⟨S65536, .i32⟩
  | 35 => ⟨S65536x1, .i32⟩
  | 36 => ⟨S1, .i32⟩
  | 37 => ⟨S_, .i32⟩
  | 38 => ⟨S65536x1, .i32⟩
  | 39 => ⟨S65536x1, .i1⟩
  | 40 => ⟨S1x1, .i32⟩
  | 41 => ⟨S65536x1, .i32⟩
  | 42 => ⟨S65536x1, .i1⟩
  | 43 => ⟨S65536x1, .i1⟩
  | 44 => ⟨S_, .i1⟩
  | 45 => ⟨S65536, .i1⟩
  | 46 => ⟨S65536x32, .f32⟩
  | 47 => ⟨S65536x32, .i1⟩
  | 48 => ⟨S_, .f32⟩
  | 49 => ⟨S65536x32, .f32⟩
  | 50 => ⟨S65536x32, .f32⟩
  | 51 => ⟨S65536x32, .f32⟩
  | 52 => ⟨S65536x32, .f32⟩
  | 53 => ⟨S65536x32, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S65536x32, .f32⟩
  | 61 => ⟨S65536x32, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S65536x32, .f32⟩
  | 70 => ⟨S65536x32, .f32⟩
  | 71 => ⟨S_, .f32⟩
  | 72 => ⟨S65536, .f32⟩
  | 73 => ⟨S65536x1, .f32⟩
  | 74 => ⟨S1x1024, .f32⟩
  | 75 => ⟨S65536x1024, .f32⟩
  | 76 => ⟨S65536x1024, .f32⟩
  | 77 => ⟨S65536x1024, .f32⟩
  | 78 => ⟨S_, .f32⟩
  | 79 => ⟨S65536x32, .f32⟩
  | 80 => ⟨S65536x32, .f32⟩
  | 81 => ⟨S32x1024, .f32⟩
  | 82 => ⟨S65536x1024, .f32⟩
  | 83 => ⟨S65536x1024, .f32⟩
  | 84 => ⟨S65536x1024, .i32⟩
  | 85 => ⟨S_, .f32⟩
  | 86 => ⟨S_, .i32⟩
  | 87 => ⟨S65536, .f32⟩
  | 88 => ⟨S65536, .i32⟩
  | 89 => ⟨S_, .i32⟩
  | 90 => ⟨S65536, .i32⟩
  | 91 => ⟨S65536, .i1⟩
  | 92 => ⟨S_, .i32⟩
  | 93 => ⟨S65536, .i32⟩
  | 94 => ⟨S65536, .i32⟩
  | 95 => ⟨S65536, .i32⟩
  | 96 => ⟨S65536x1, .i32⟩
  | 97 => ⟨S1, .i32⟩
  | 98 => ⟨S_, .i32⟩
  | 99 => ⟨S65536x1, .i32⟩
  | 100 => ⟨S65536x1, .i1⟩
  | 101 => ⟨S1x1, .i32⟩
  | 102 => ⟨S65536x1, .i32⟩
  | 103 => ⟨S65536x1, .i1⟩
  | 104 => ⟨S65536x1, .i1⟩
  | 105 => ⟨S_, .i1⟩
  | 106 => ⟨S65536, .i1⟩
  | 107 => ⟨S65536x32, .f32⟩
  | 108 => ⟨S65536x32, .i1⟩
  | 109 => ⟨S_, .f32⟩
  | 110 => ⟨S65536x32, .f32⟩
  | 111 => ⟨S65536x32, .f32⟩
  | 112 => ⟨S65536x32, .f32⟩
  | 113 => ⟨S65536x32, .f32⟩
  | 114 => ⟨S65536x32, .f32⟩
  | 115 => ⟨S_, .f32⟩
  | 116 => ⟨S_, .f32⟩
  | 117 => ⟨S_, .f32⟩
  | 118 => ⟨S_, .f32⟩
  | 119 => ⟨S_, .f32⟩
  | 120 => ⟨S65536x32, .f32⟩
  | 121 => ⟨S65536x32, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4x32x128x128, .f32⟩

abbrev hbmTy0_1 (i : Nat) : BufTy := match i % 128 with
  | 0 => ⟨S_, .f32⟩
  | 1 => ⟨S65536x32, .f32⟩
  | 2 => ⟨S65536x32, .f32⟩
  | 3 => ⟨S_, .f32⟩
  | 4 => ⟨S65536, .f32⟩
  | 5 => ⟨S65536x1, .f32⟩
  | 6 => ⟨S1x1024, .f32⟩
  | 7 => ⟨S65536x1024, .f32⟩
  | 8 => ⟨S65536x1024, .f32⟩
  | 9 => ⟨S65536x1024, .f32⟩
  | 10 => ⟨S_, .f32⟩
  | 11 => ⟨S65536x32, .f32⟩
  | 12 => ⟨S65536x32, .f32⟩
  | 13 => ⟨S32x1024, .f32⟩
  | 14 => ⟨S65536x1024, .f32⟩
  | 15 => ⟨S65536x1024, .f32⟩
  | 16 => ⟨S65536x1024, .i32⟩
  | 17 => ⟨S_, .f32⟩
  | 18 => ⟨S_, .i32⟩
  | 19 => ⟨S65536, .f32⟩
  | 20 => ⟨S65536, .i32⟩
  | 21 => ⟨S_, .i32⟩
  | 22 => ⟨S65536, .i32⟩
  | 23 => ⟨S65536, .i1⟩
  | 24 => ⟨S_, .i32⟩
  | 25 => ⟨S65536, .i32⟩
  | 26 => ⟨S65536, .i32⟩
  | 27 => ⟨S65536, .i32⟩
  | 28 => ⟨S65536x1, .i32⟩
  | 29 => ⟨S1, .i32⟩
  | 30 => ⟨S_, .i32⟩
  | 31 => ⟨S65536x1, .i32⟩
  | 32 => ⟨S65536x1, .i1⟩
  | 33 => ⟨S1x1, .i32⟩
  | 34 => ⟨S65536x1, .i32⟩
  | 35 => ⟨S65536x1, .i1⟩
  | 36 => ⟨S65536x1, .i1⟩
  | 37 => ⟨S_, .i1⟩
  | 38 => ⟨S65536, .i1⟩
  | 39 => ⟨S65536x32, .f32⟩
  | 40 => ⟨S65536x32, .i1⟩
  | 41 => ⟨S_, .f32⟩
  | 42 => ⟨S65536x32, .f32⟩
  | 43 => ⟨S65536x32, .f32⟩
  | 44 => ⟨S65536x32, .f32⟩
  | 45 => ⟨S65536x32, .f32⟩
  | 46 => ⟨S65536x32, .f32⟩
  | 47 => ⟨S_, .f32⟩
  | 48 => ⟨S_, .f32⟩
  | 49 => ⟨S_, .f32⟩
  | 50 => ⟨S_, .f32⟩
  | 51 => ⟨S_, .f32⟩
  | 52 => ⟨S65536x32, .f32⟩
  | 53 => ⟨S65536x32, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S65536x32, .f32⟩
  | 62 => ⟨S65536x32, .f32⟩
  | 63 => ⟨S_, .f32⟩
  | 64 => ⟨S65536, .f32⟩
  | 65 => ⟨S65536x1, .f32⟩
  | 66 => ⟨S1x1024, .f32⟩
  | 67 => ⟨S65536x1024, .f32⟩
  | 68 => ⟨S65536x1024, .f32⟩
  | 69 => ⟨S65536x1024, .f32⟩
  | 70 => ⟨S_, .f32⟩
  | 71 => ⟨S65536x32, .f32⟩
  | 72 => ⟨S65536x32, .f32⟩
  | 73 => ⟨S32x1024, .f32⟩
  | 74 => ⟨S65536x1024, .f32⟩
  | 75 => ⟨S65536x1024, .f32⟩
  | 76 => ⟨S65536x1024, .i32⟩
  | 77 => ⟨S_, .f32⟩
  | 78 => ⟨S_, .i32⟩
  | 79 => ⟨S65536, .f32⟩
  | 80 => ⟨S65536, .i32⟩
  | 81 => ⟨S_, .i32⟩
  | 82 => ⟨S65536, .i32⟩
  | 83 => ⟨S65536, .i1⟩
  | 84 => ⟨S_, .i32⟩
  | 85 => ⟨S65536, .i32⟩
  | 86 => ⟨S65536, .i32⟩
  | 87 => ⟨S65536, .i32⟩
  | 88 => ⟨S65536x1, .i32⟩
  | 89 => ⟨S1, .i32⟩
  | 90 => ⟨S_, .i32⟩
  | 91 => ⟨S65536x1, .i32⟩
  | 92 => ⟨S65536x1, .i1⟩
  | 93 => ⟨S1x1, .i32⟩
  | 94 => ⟨S65536x1, .i32⟩
  | 95 => ⟨S65536x1, .i1⟩
  | 96 => ⟨S65536x1, .i1⟩
  | 97 => ⟨S_, .i1⟩
  | 98 => ⟨S65536, .i1⟩
  | 99 => ⟨S65536x32, .f32⟩
  | 100 => ⟨S65536x32, .i1⟩
  | 101 => ⟨S_, .f32⟩
  | 102 => ⟨S65536x32, .f32⟩
  | 103 => ⟨S65536x32, .f32⟩
  | 104 => ⟨S65536x32, .f32⟩
  | 105 => ⟨S65536x32, .f32⟩
  | 106 => ⟨S65536x32, .f32⟩
  | 107 => ⟨S_, .f32⟩
  | 108 => ⟨S_, .f32⟩
  | 109 => ⟨S_, .f32⟩
  | 110 => ⟨S_, .f32⟩
  | 111 => ⟨S_, .f32⟩
  | 112 => ⟨S65536x32, .f32⟩
  | 113 => ⟨S65536x32, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S65536x32, .f32⟩
  | 122 => ⟨S65536x32, .f32⟩
  | 123 => ⟨S_, .f32⟩
  | 124 => ⟨S65536, .f32⟩
  | 125 => ⟨S65536x1, .f32⟩
  | 126 => ⟨S1x1024, .f32⟩
  | 127 => ⟨S65536x1024, .f32⟩
  | _ => ⟨S4x32x128x128, .f32⟩

abbrev hbmTy0_2 (i : Nat) : BufTy := match i % 128 with
  | 0 => ⟨S65536x1024, .f32⟩
  | 1 => ⟨S65536x1024, .f32⟩
  | 2 => ⟨S_, .f32⟩
  | 3 => ⟨S65536x32, .f32⟩
  | 4 => ⟨S65536x32, .f32⟩
  | 5 => ⟨S32x1024, .f32⟩
  | 6 => ⟨S65536x1024, .f32⟩
  | 7 => ⟨S65536x1024, .f32⟩
  | 8 => ⟨S65536x1024, .i32⟩
  | 9 => ⟨S_, .f32⟩
  | 10 => ⟨S_, .i32⟩
  | 11 => ⟨S65536, .f32⟩
  | 12 => ⟨S65536, .i32⟩
  | 13 => ⟨S_, .i32⟩
  | 14 => ⟨S65536, .i32⟩
  | 15 => ⟨S65536, .i1⟩
  | 16 => ⟨S_, .i32⟩
  | 17 => ⟨S65536, .i32⟩
  | 18 => ⟨S65536, .i32⟩
  | 19 => ⟨S65536, .i32⟩
  | 20 => ⟨S65536x1, .i32⟩
  | 21 => ⟨S1, .i32⟩
  | 22 => ⟨S_, .i32⟩
  | 23 => ⟨S65536x1, .i32⟩
  | 24 => ⟨S65536x1, .i1⟩
  | 25 => ⟨S1x1, .i32⟩
  | 26 => ⟨S65536x1, .i32⟩
  | 27 => ⟨S65536x1, .i1⟩
  | 28 => ⟨S65536x1, .i1⟩
  | 29 => ⟨S_, .i1⟩
  | 30 => ⟨S65536, .i1⟩
  | 31 => ⟨S65536x32, .f32⟩
  | 32 => ⟨S65536x32, .i1⟩
  | 33 => ⟨S_, .f32⟩
  | 34 => ⟨S65536x32, .f32⟩
  | 35 => ⟨S65536x32, .f32⟩
  | 36 => ⟨S65536x32, .f32⟩
  | 37 => ⟨S65536x32, .f32⟩
  | 38 => ⟨S65536x32, .f32⟩
  | 39 => ⟨S_, .f32⟩
  | 40 => ⟨S_, .f32⟩
  | 41 => ⟨S_, .f32⟩
  | 42 => ⟨S_, .f32⟩
  | 43 => ⟨S_, .f32⟩
  | 44 => ⟨S65536x32, .f32⟩
  | 45 => ⟨S65536x32, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S65536x32, .f32⟩
  | 54 => ⟨S65536x32, .f32⟩
  | 55 => ⟨S_, .f32⟩
  | 56 => ⟨S65536, .f32⟩
  | 57 => ⟨S65536x1, .f32⟩
  | 58 => ⟨S1x1024, .f32⟩
  | 59 => ⟨S65536x1024, .f32⟩
  | 60 => ⟨S65536x1024, .f32⟩
  | 61 => ⟨S65536x1024, .f32⟩
  | 62 => ⟨S_, .f32⟩
  | 63 => ⟨S65536x32, .f32⟩
  | 64 => ⟨S65536x32, .f32⟩
  | 65 => ⟨S32x1024, .f32⟩
  | 66 => ⟨S65536x1024, .f32⟩
  | 67 => ⟨S65536x1024, .f32⟩
  | 68 => ⟨S65536x1024, .i32⟩
  | 69 => ⟨S_, .f32⟩
  | 70 => ⟨S_, .i32⟩
  | 71 => ⟨S65536, .f32⟩
  | 72 => ⟨S65536, .i32⟩
  | 73 => ⟨S_, .i32⟩
  | 74 => ⟨S65536, .i32⟩
  | 75 => ⟨S65536, .i1⟩
  | 76 => ⟨S_, .i32⟩
  | 77 => ⟨S65536, .i32⟩
  | 78 => ⟨S65536, .i32⟩
  | 79 => ⟨S65536, .i32⟩
  | 80 => ⟨S65536x1, .i32⟩
  | 81 => ⟨S1, .i32⟩
  | 82 => ⟨S_, .i32⟩
  | 83 => ⟨S65536x1, .i32⟩
  | 84 => ⟨S65536x1, .i1⟩
  | 85 => ⟨S1x1, .i32⟩
  | 86 => ⟨S65536x1, .i32⟩
  | 87 => ⟨S65536x1, .i1⟩
  | 88 => ⟨S65536x1, .i1⟩
  | 89 => ⟨S_, .i1⟩
  | 90 => ⟨S65536, .i1⟩
  | 91 => ⟨S65536x32, .f32⟩
  | 92 => ⟨S65536x32, .i1⟩
  | 93 => ⟨S_, .f32⟩
  | 94 => ⟨S65536x32, .f32⟩
  | 95 => ⟨S65536x32, .f32⟩
  | 96 => ⟨S65536x32, .f32⟩
  | 97 => ⟨S65536x32, .f32⟩
  | 98 => ⟨S65536x32, .f32⟩
  | 99 => ⟨S_, .f32⟩
  | 100 => ⟨S_, .f32⟩
  | 101 => ⟨S_, .f32⟩
  | 102 => ⟨S_, .f32⟩
  | 103 => ⟨S_, .f32⟩
  | 104 => ⟨S65536x32, .f32⟩
  | 105 => ⟨S65536x32, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S65536x32, .f32⟩
  | 114 => ⟨S65536x32, .f32⟩
  | 115 => ⟨S65536x32, .f32⟩
  | 116 => ⟨S4x128x128x32, .f32⟩
  | 117 => ⟨S4x32x128x128, .f32⟩
  | 118 => ⟨S1x65536, .i32⟩
  | 119 => ⟨S1x65536, .i32⟩
  | 120 => ⟨S1x65536, .i32⟩
  | 121 => ⟨S1x65536, .i32⟩
  | 122 => ⟨S1x65536, .i32⟩
  | 123 => ⟨S1x65536, .i32⟩
  | 124 => ⟨S6x65536, .i32⟩
  | _ => ⟨S4x32x128x128, .f32⟩

abbrev hbmTy (i : Nat) : BufTy := match i / 128 with
  | 0 => hbmTy0_0 i
  | 1 => hbmTy0_1 i
  | 2 => hbmTy0_2 i
  | _ => ⟨S4x32x128x128, .f32⟩

abbrev bufTy : (tb : Table) → Fin (tcTables nBuf tb) → BufTy
  | .hbm, ⟨i, _⟩ => hbmTy i
  | _, _ => ⟨S4x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_cst_7 : Ref sig .tc := ⟨.hbm, 64, rfl⟩
abbrev main_v28 : Ref sig .tc := ⟨.hbm, 65, rfl⟩
abbrev main_cst_8 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_9 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_10 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_call2_v0 : Ref sig .tc := ⟨.hbm, 84, rfl⟩
abbrev main_call2_cst : Ref sig .tc := ⟨.hbm, 85, rfl⟩
abbrev main_call2_c : Ref sig .tc := ⟨.hbm, 86, rfl⟩
abbrev main_call2_v1_0 : Ref sig .tc := ⟨.hbm, 87, rfl⟩
abbrev main_v44 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_cst_11 : Ref sig .tc := ⟨.hbm, 115, rfl⟩
abbrev main_v49 : Ref sig .tc := ⟨.hbm, 116, rfl⟩
abbrev main_cst_12 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_cst_13 : Ref sig .tc := ⟨.hbm, 122, rfl⟩
abbrev main_v54 : Ref sig .tc := ⟨.hbm, 123, rfl⟩
abbrev main_cst_14 : Ref sig .tc := ⟨.hbm, 124, rfl⟩
abbrev main_v55 : Ref sig .tc := ⟨.hbm, 125, rfl⟩
abbrev main_cst_15 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_cst_16 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_cst_17 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_call4_v0 : Ref sig .tc := ⟨.hbm, 144, rfl⟩
abbrev main_call4_cst : Ref sig .tc := ⟨.hbm, 145, rfl⟩
abbrev main_call4_c : Ref sig .tc := ⟨.hbm, 146, rfl⟩
abbrev main_call4_v1_0 : Ref sig .tc := ⟨.hbm, 147, rfl⟩
abbrev main_v71 : Ref sig .tc := ⟨.hbm, 148, rfl⟩
abbrev main_call5_c : Ref sig .tc := ⟨.hbm, 149, rfl⟩
abbrev main_call5_v0 : Ref sig .tc := ⟨.hbm, 150, rfl⟩
abbrev main_call5_v1 : Ref sig .tc := ⟨.hbm, 151, rfl⟩
abbrev main_call5_c_0 : Ref sig .tc := ⟨.hbm, 152, rfl⟩
abbrev main_call5_v2 : Ref sig .tc := ⟨.hbm, 153, rfl⟩
abbrev main_call5_v3 : Ref sig .tc := ⟨.hbm, 154, rfl⟩
abbrev main_call5_v4 : Ref sig .tc := ⟨.hbm, 155, rfl⟩
abbrev main_call5_v5 : Ref sig .tc := ⟨.hbm, 156, rfl⟩
abbrev main_call5_c_1 : Ref sig .tc := ⟨.hbm, 157, rfl⟩
abbrev main_call5_c_2 : Ref sig .tc := ⟨.hbm, 158, rfl⟩
abbrev main_call5_v6 : Ref sig .tc := ⟨.hbm, 159, rfl⟩
abbrev main_call5_v7 : Ref sig .tc := ⟨.hbm, 160, rfl⟩
abbrev main_call5_v8 : Ref sig .tc := ⟨.hbm, 161, rfl⟩
abbrev main_call5_v9 : Ref sig .tc := ⟨.hbm, 162, rfl⟩
abbrev main_call5_v10 : Ref sig .tc := ⟨.hbm, 163, rfl⟩
abbrev main_call5_v11 : Ref sig .tc := ⟨.hbm, 164, rfl⟩
abbrev main_call5_c_3 : Ref sig .tc := ⟨.hbm, 165, rfl⟩
abbrev main_call5_v12 : Ref sig .tc := ⟨.hbm, 166, rfl⟩
abbrev main_call5_v13 : Ref sig .tc := ⟨.hbm, 167, rfl⟩
abbrev main_call5_v14 : Ref sig .tc := ⟨.hbm, 168, rfl⟩
abbrev main_call5_cst : Ref sig .tc := ⟨.hbm, 169, rfl⟩
abbrev main_call5_v15 : Ref sig .tc := ⟨.hbm, 170, rfl⟩
abbrev main_v72 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_cst_18 : Ref sig .tc := ⟨.hbm, 175, rfl⟩
abbrev main_v76 : Ref sig .tc := ⟨.hbm, 176, rfl⟩
abbrev main_cst_19 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_cst_20 : Ref sig .tc := ⟨.hbm, 182, rfl⟩
abbrev main_v81 : Ref sig .tc := ⟨.hbm, 183, rfl⟩
abbrev main_cst_21 : Ref sig .tc := ⟨.hbm, 184, rfl⟩
abbrev main_v82 : Ref sig .tc := ⟨.hbm, 185, rfl⟩
abbrev main_cst_22 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_v86 : Ref sig .tc := ⟨.hbm, 190, rfl⟩
abbrev main_cst_23 : Ref sig .tc := ⟨.hbm, 191, rfl⟩
abbrev main_v87 : Ref sig .tc := ⟨.hbm, 192, rfl⟩
abbrev main_v88 : Ref sig .tc := ⟨.hbm, 193, rfl⟩
abbrev main_v89 : Ref sig .tc := ⟨.hbm, 194, rfl⟩
abbrev main_v90 : Ref sig .tc := ⟨.hbm, 195, rfl⟩
abbrev main_v91 : Ref sig .tc := ⟨.hbm, 196, rfl⟩
abbrev main_v92 : Ref sig .tc := ⟨.hbm, 197, rfl⟩
abbrev main_cst_24 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_v97 : Ref sig .tc := ⟨.hbm, 203, rfl⟩
abbrev main_call6_v0 : Ref sig .tc := ⟨.hbm, 204, rfl⟩
abbrev main_call6_cst : Ref sig .tc := ⟨.hbm, 205, rfl⟩
abbrev main_call6_c : Ref sig .tc := ⟨.hbm, 206, rfl⟩
abbrev main_call6_v1_0 : Ref sig .tc := ⟨.hbm, 207, rfl⟩
abbrev main_v98 : Ref sig .tc := ⟨.hbm, 208, rfl⟩
abbrev main_call7_c : Ref sig .tc := ⟨.hbm, 209, rfl⟩
abbrev main_call7_v0 : Ref sig .tc := ⟨.hbm, 210, rfl⟩
abbrev main_call7_v1 : Ref sig .tc := ⟨.hbm, 211, rfl⟩
abbrev main_call7_c_0 : Ref sig .tc := ⟨.hbm, 212, rfl⟩
abbrev main_call7_v2 : Ref sig .tc := ⟨.hbm, 213, rfl⟩
abbrev main_call7_v3 : Ref sig .tc := ⟨.hbm, 214, rfl⟩
abbrev main_call7_v4 : Ref sig .tc := ⟨.hbm, 215, rfl⟩
abbrev main_call7_v5 : Ref sig .tc := ⟨.hbm, 216, rfl⟩
abbrev main_call7_c_1 : Ref sig .tc := ⟨.hbm, 217, rfl⟩
abbrev main_call7_c_2 : Ref sig .tc := ⟨.hbm, 218, rfl⟩
abbrev main_call7_v6 : Ref sig .tc := ⟨.hbm, 219, rfl⟩
abbrev main_call7_v7 : Ref sig .tc := ⟨.hbm, 220, rfl⟩
abbrev main_call7_v8 : Ref sig .tc := ⟨.hbm, 221, rfl⟩
abbrev main_call7_v9 : Ref sig .tc := ⟨.hbm, 222, rfl⟩
abbrev main_call7_v10 : Ref sig .tc := ⟨.hbm, 223, rfl⟩
abbrev main_call7_v11 : Ref sig .tc := ⟨.hbm, 224, rfl⟩
abbrev main_call7_c_3 : Ref sig .tc := ⟨.hbm, 225, rfl⟩
abbrev main_call7_v12 : Ref sig .tc := ⟨.hbm, 226, rfl⟩
abbrev main_call7_v13 : Ref sig .tc := ⟨.hbm, 227, rfl⟩
abbrev main_call7_v14 : Ref sig .tc := ⟨.hbm, 228, rfl⟩
abbrev main_call7_cst : Ref sig .tc := ⟨.hbm, 229, rfl⟩
abbrev main_call7_v15 : Ref sig .tc := ⟨.hbm, 230, rfl⟩
abbrev main_v99 : Ref sig .tc := ⟨.hbm, 231, rfl⟩
abbrev main_v100 : Ref sig .tc := ⟨.hbm, 232, rfl⟩
abbrev main_v101 : Ref sig .tc := ⟨.hbm, 233, rfl⟩
abbrev main_v102 : Ref sig .tc := ⟨.hbm, 234, rfl⟩
abbrev main_cst_25 : Ref sig .tc := ⟨.hbm, 235, rfl⟩
abbrev main_v103 : Ref sig .tc := ⟨.hbm, 236, rfl⟩
abbrev main_cst_26 : Ref sig .tc := ⟨.hbm, 237, rfl⟩
abbrev main_v104 : Ref sig .tc := ⟨.hbm, 238, rfl⟩
abbrev main_v105 : Ref sig .tc := ⟨.hbm, 239, rfl⟩
abbrev main_v106 : Ref sig .tc := ⟨.hbm, 240, rfl⟩
abbrev main_v107 : Ref sig .tc := ⟨.hbm, 241, rfl⟩
abbrev main_cst_27 : Ref sig .tc := ⟨.hbm, 242, rfl⟩
abbrev main_v108 : Ref sig .tc := ⟨.hbm, 243, rfl⟩
abbrev main_cst_28 : Ref sig .tc := ⟨.hbm, 244, rfl⟩
abbrev main_v109 : Ref sig .tc := ⟨.hbm, 245, rfl⟩
abbrev main_cst_29 : Ref sig .tc := ⟨.hbm, 246, rfl⟩
abbrev main_v110 : Ref sig .tc := ⟨.hbm, 247, rfl⟩
abbrev main_v111 : Ref sig .tc := ⟨.hbm, 248, rfl⟩
abbrev main_v112 : Ref sig .tc := ⟨.hbm, 249, rfl⟩
abbrev main_v113 : Ref sig .tc := ⟨.hbm, 250, rfl⟩
abbrev main_cst_30 : Ref sig .tc := ⟨.hbm, 251, rfl⟩
abbrev main_v114 : Ref sig .tc := ⟨.hbm, 252, rfl⟩
abbrev main_v115 : Ref sig .tc := ⟨.hbm, 253, rfl⟩
abbrev main_v116 : Ref sig .tc := ⟨.hbm, 254, rfl⟩
abbrev main_v117 : Ref sig .tc := ⟨.hbm, 255, rfl⟩
abbrev main_v118 : Ref sig .tc := ⟨.hbm, 256, rfl⟩
abbrev main_v119 : Ref sig .tc := ⟨.hbm, 257, rfl⟩
abbrev main_cst_31 : Ref sig .tc := ⟨.hbm, 258, rfl⟩
abbrev main_v120 : Ref sig .tc := ⟨.hbm, 259, rfl⟩
abbrev main_v121 : Ref sig .tc := ⟨.hbm, 260, rfl⟩
abbrev main_v122 : Ref sig .tc := ⟨.hbm, 261, rfl⟩
abbrev main_v123 : Ref sig .tc := ⟨.hbm, 262, rfl⟩
abbrev main_v124 : Ref sig .tc := ⟨.hbm, 263, rfl⟩
abbrev main_call8_v0 : Ref sig .tc := ⟨.hbm, 264, rfl⟩
abbrev main_call8_cst : Ref sig .tc := ⟨.hbm, 265, rfl⟩
abbrev main_call8_c : Ref sig .tc := ⟨.hbm, 266, rfl⟩
abbrev main_call8_v1_0 : Ref sig .tc := ⟨.hbm, 267, rfl⟩
abbrev main_v125 : Ref sig .tc := ⟨.hbm, 268, rfl⟩
abbrev main_call9_c : Ref sig .tc := ⟨.hbm, 269, rfl⟩
abbrev main_call9_v0 : Ref sig .tc := ⟨.hbm, 270, rfl⟩
abbrev main_call9_v1 : Ref sig .tc := ⟨.hbm, 271, rfl⟩
abbrev main_call9_c_0 : Ref sig .tc := ⟨.hbm, 272, rfl⟩
abbrev main_call9_v2 : Ref sig .tc := ⟨.hbm, 273, rfl⟩
abbrev main_call9_v3 : Ref sig .tc := ⟨.hbm, 274, rfl⟩
abbrev main_call9_v4 : Ref sig .tc := ⟨.hbm, 275, rfl⟩
abbrev main_call9_v5 : Ref sig .tc := ⟨.hbm, 276, rfl⟩
abbrev main_call9_c_1 : Ref sig .tc := ⟨.hbm, 277, rfl⟩
abbrev main_call9_c_2 : Ref sig .tc := ⟨.hbm, 278, rfl⟩
abbrev main_call9_v6 : Ref sig .tc := ⟨.hbm, 279, rfl⟩
abbrev main_call9_v7 : Ref sig .tc := ⟨.hbm, 280, rfl⟩
abbrev main_call9_v8 : Ref sig .tc := ⟨.hbm, 281, rfl⟩
abbrev main_call9_v9 : Ref sig .tc := ⟨.hbm, 282, rfl⟩
abbrev main_call9_v10 : Ref sig .tc := ⟨.hbm, 283, rfl⟩
abbrev main_call9_v11 : Ref sig .tc := ⟨.hbm, 284, rfl⟩
abbrev main_call9_c_3 : Ref sig .tc := ⟨.hbm, 285, rfl⟩
abbrev main_call9_v12 : Ref sig .tc := ⟨.hbm, 286, rfl⟩
abbrev main_call9_v13 : Ref sig .tc := ⟨.hbm, 287, rfl⟩
abbrev main_call9_v14 : Ref sig .tc := ⟨.hbm, 288, rfl⟩
abbrev main_call9_cst : Ref sig .tc := ⟨.hbm, 289, rfl⟩
abbrev main_call9_v15 : Ref sig .tc := ⟨.hbm, 290, rfl⟩
abbrev main_v126 : Ref sig .tc := ⟨.hbm, 291, rfl⟩
abbrev main_v127 : Ref sig .tc := ⟨.hbm, 292, rfl⟩
abbrev main_v128 : Ref sig .tc := ⟨.hbm, 293, rfl⟩
abbrev main_v129 : Ref sig .tc := ⟨.hbm, 294, rfl⟩
abbrev main_cst_32 : Ref sig .tc := ⟨.hbm, 295, rfl⟩
abbrev main_v130 : Ref sig .tc := ⟨.hbm, 296, rfl⟩
abbrev main_cst_33 : Ref sig .tc := ⟨.hbm, 297, rfl⟩
abbrev main_v131 : Ref sig .tc := ⟨.hbm, 298, rfl⟩
abbrev main_v132 : Ref sig .tc := ⟨.hbm, 299, rfl⟩
abbrev main_v133 : Ref sig .tc := ⟨.hbm, 300, rfl⟩
abbrev main_v134 : Ref sig .tc := ⟨.hbm, 301, rfl⟩
abbrev main_cst_34 : Ref sig .tc := ⟨.hbm, 302, rfl⟩
abbrev main_v135 : Ref sig .tc := ⟨.hbm, 303, rfl⟩
abbrev main_cst_35 : Ref sig .tc := ⟨.hbm, 304, rfl⟩
abbrev main_v136 : Ref sig .tc := ⟨.hbm, 305, rfl⟩
abbrev main_cst_36 : Ref sig .tc := ⟨.hbm, 306, rfl⟩
abbrev main_v137 : Ref sig .tc := ⟨.hbm, 307, rfl⟩
abbrev main_v138 : Ref sig .tc := ⟨.hbm, 308, rfl⟩
abbrev main_v139 : Ref sig .tc := ⟨.hbm, 309, rfl⟩
abbrev main_v140 : Ref sig .tc := ⟨.hbm, 310, rfl⟩
abbrev main_cst_37 : Ref sig .tc := ⟨.hbm, 311, rfl⟩
abbrev main_v141 : Ref sig .tc := ⟨.hbm, 312, rfl⟩
abbrev main_v142 : Ref sig .tc := ⟨.hbm, 313, rfl⟩
abbrev main_v143 : Ref sig .tc := ⟨.hbm, 314, rfl⟩
abbrev main_v144 : Ref sig .tc := ⟨.hbm, 315, rfl⟩
abbrev main_v145 : Ref sig .tc := ⟨.hbm, 316, rfl⟩
abbrev main_v146 : Ref sig .tc := ⟨.hbm, 317, rfl⟩
abbrev main_cst_38 : Ref sig .tc := ⟨.hbm, 318, rfl⟩
abbrev main_v147 : Ref sig .tc := ⟨.hbm, 319, rfl⟩
abbrev main_v148 : Ref sig .tc := ⟨.hbm, 320, rfl⟩
abbrev main_v149 : Ref sig .tc := ⟨.hbm, 321, rfl⟩
abbrev main_v150 : Ref sig .tc := ⟨.hbm, 322, rfl⟩
abbrev main_v151 : Ref sig .tc := ⟨.hbm, 323, rfl⟩
abbrev main_call10_v0 : Ref sig .tc := ⟨.hbm, 324, rfl⟩
abbrev main_call10_cst : Ref sig .tc := ⟨.hbm, 325, rfl⟩
abbrev main_call10_c : Ref sig .tc := ⟨.hbm, 326, rfl⟩
abbrev main_call10_v1_0 : Ref sig .tc := ⟨.hbm, 327, rfl⟩
abbrev main_v152 : Ref sig .tc := ⟨.hbm, 328, rfl⟩
abbrev main_call11_c : Ref sig .tc := ⟨.hbm, 329, rfl⟩
abbrev main_call11_v0 : Ref sig .tc := ⟨.hbm, 330, rfl⟩
abbrev main_call11_v1 : Ref sig .tc := ⟨.hbm, 331, rfl⟩
abbrev main_call11_c_0 : Ref sig .tc := ⟨.hbm, 332, rfl⟩
abbrev main_call11_v2 : Ref sig .tc := ⟨.hbm, 333, rfl⟩
abbrev main_call11_v3 : Ref sig .tc := ⟨.hbm, 334, rfl⟩
abbrev main_call11_v4 : Ref sig .tc := ⟨.hbm, 335, rfl⟩
abbrev main_call11_v5 : Ref sig .tc := ⟨.hbm, 336, rfl⟩
abbrev main_call11_c_1 : Ref sig .tc := ⟨.hbm, 337, rfl⟩
abbrev main_call11_c_2 : Ref sig .tc := ⟨.hbm, 338, rfl⟩
abbrev main_call11_v6 : Ref sig .tc := ⟨.hbm, 339, rfl⟩
abbrev main_call11_v7 : Ref sig .tc := ⟨.hbm, 340, rfl⟩
abbrev main_call11_v8 : Ref sig .tc := ⟨.hbm, 341, rfl⟩
abbrev main_call11_v9 : Ref sig .tc := ⟨.hbm, 342, rfl⟩
abbrev main_call11_v10 : Ref sig .tc := ⟨.hbm, 343, rfl⟩
abbrev main_call11_v11 : Ref sig .tc := ⟨.hbm, 344, rfl⟩
abbrev main_call11_c_3 : Ref sig .tc := ⟨.hbm, 345, rfl⟩
abbrev main_call11_v12 : Ref sig .tc := ⟨.hbm, 346, rfl⟩
abbrev main_call11_v13 : Ref sig .tc := ⟨.hbm, 347, rfl⟩
abbrev main_call11_v14 : Ref sig .tc := ⟨.hbm, 348, rfl⟩
abbrev main_call11_cst : Ref sig .tc := ⟨.hbm, 349, rfl⟩
abbrev main_call11_v15 : Ref sig .tc := ⟨.hbm, 350, rfl⟩
abbrev main_v153 : Ref sig .tc := ⟨.hbm, 351, rfl⟩
abbrev main_v154 : Ref sig .tc := ⟨.hbm, 352, rfl⟩
abbrev main_v155 : Ref sig .tc := ⟨.hbm, 353, rfl⟩
abbrev main_v156 : Ref sig .tc := ⟨.hbm, 354, rfl⟩
abbrev main_cst_39 : Ref sig .tc := ⟨.hbm, 355, rfl⟩
abbrev main_v157 : Ref sig .tc := ⟨.hbm, 356, rfl⟩
abbrev main_cst_40 : Ref sig .tc := ⟨.hbm, 357, rfl⟩
abbrev main_v158 : Ref sig .tc := ⟨.hbm, 358, rfl⟩
abbrev main_v159 : Ref sig .tc := ⟨.hbm, 359, rfl⟩
abbrev main_v160 : Ref sig .tc := ⟨.hbm, 360, rfl⟩
abbrev main_v161 : Ref sig .tc := ⟨.hbm, 361, rfl⟩
abbrev main_cst_41 : Ref sig .tc := ⟨.hbm, 362, rfl⟩
abbrev main_v162 : Ref sig .tc := ⟨.hbm, 363, rfl⟩
abbrev main_cst_42 : Ref sig .tc := ⟨.hbm, 364, rfl⟩
abbrev main_v163 : Ref sig .tc := ⟨.hbm, 365, rfl⟩
abbrev main_cst_43 : Ref sig .tc := ⟨.hbm, 366, rfl⟩
abbrev main_v164 : Ref sig .tc := ⟨.hbm, 367, rfl⟩
abbrev main_v165 : Ref sig .tc := ⟨.hbm, 368, rfl⟩
abbrev main_v166 : Ref sig .tc := ⟨.hbm, 369, rfl⟩
abbrev main_v167 : Ref sig .tc := ⟨.hbm, 370, rfl⟩
abbrev main_v168 : Ref sig .tc := ⟨.hbm, 371, rfl⟩
abbrev main_v169 : Ref sig .tc := ⟨.hbm, 372, rfl⟩
abbrev main_v170 : Ref sig .tc := ⟨.hbm, 373, rfl⟩
abbrev main_v171 : Ref sig .tc := ⟨.hbm, 374, rfl⟩
abbrev main_v172 : Ref sig .tc := ⟨.hbm, 375, rfl⟩
abbrev main_v173 : Ref sig .tc := ⟨.hbm, 376, rfl⟩
abbrev main_v174 : Ref sig .tc := ⟨.hbm, 377, rfl⟩
abbrev main_v175 : Ref sig .tc := ⟨.hbm, 378, rfl⟩
abbrev main_v176 : Ref sig .tc := ⟨.hbm, 379, rfl⟩
abbrev main_v177 : Ref sig .tc := ⟨.hbm, 380, rfl⟩

abbrev nD : Nat := 1
abbrev τ : Topo := Topo.v7x

variable {F : FTy → Type} [FloatOps F]
-- ==== Proof.Spec.lean ====
/-
  Residual vector quantisation of one row, as plain mathematics over the extended reals: no program is named here.

  A row of 32 numbers is coded against a book of 1024 rows, six times over: each time the nearest row of the book
  (the first one, where several are nearest) is taken off what is left of the row. This module defines the codes, what
  is left, what has been taken, and the squared error of a level, and proves the few facts of arithmetic on the extended
  reals that let a program compute them in another order.
-/
module

public import Mathlib.Data.EReal.Operations
public import Mathlib.Data.EReal.Inv
public import Mathlib.Data.Fintype.BigOperators
public import Mathlib.Algebra.BigOperators.Fin
public import Mathlib.Algebra.Order.BigOperators.Group.Finset

@[expose] public section

noncomputable section

namespace Rvq

/-- One row to be coded. -/
abbrev Row := Fin 32 → EReal

/-- The book of rows. -/
abbrev Book := Fin 1024 → Fin 32 → EReal

/-- The places where `d` is least. -/
def least {n : ℕ} (d : Fin n → EReal) : Finset (Fin n) := Finset.univ.filter fun k => ∀ j, d k ≤ d j

/-- A function on a nonempty finite set is least somewhere. -/
theorem least_nonempty {n : ℕ} [NeZero n] (d : Fin n → EReal) : (least d).Nonempty := by
  obtain ⟨k, -, hk⟩ := Finset.exists_min_image Finset.univ d ⟨0, Finset.mem_univ _⟩
  exact ⟨k, Finset.mem_filter.mpr ⟨Finset.mem_univ _, fun j => hk j (Finset.mem_univ _)⟩⟩

/-- The first place where `d` is least. -/
def firstMin {n : ℕ} [NeZero n] (d : Fin n → EReal) : Fin n := (least d).min' (least_nonempty d)

/-- At the first least place `d` is least. -/
theorem firstMin_le {n : ℕ} [NeZero n] (d : Fin n → EReal) (j : Fin n) : d (firstMin d) ≤ d j :=
  (Finset.mem_filter.mp ((least d).min'_mem (least_nonempty d))).2 j

/-- No earlier place is least. -/
theorem firstMin_first {n : ℕ} [NeZero n] (d : Fin n → EReal) (k : Fin n) (hk : ∀ j, d k ≤ d j) : firstMin d ≤ k :=
  (least d).min'_le k (Finset.mem_filter.mpr ⟨Finset.mem_univ _, hk⟩)

/-- A place that is least, and before which every place is greater, is the first least place. -/
theorem eq_firstMin {n : ℕ} [NeZero n] (d : Fin n → EReal) (k : Fin n) (hk : ∀ j, d k ≤ d j)
    (h : ∀ j, j < k → d k < d j) : k = firstMin d := by
  refine le_antisymm (not_lt.mp fun hlt => ?_) (firstMin_first d k hk)
  exact absurd (firstMin_le d k) (not_le.mpr (h _ hlt))

/-- The squared distance of the row `r` to row `k` of the book, spread out: `(|r|² + |c|²) − 2 r·c`. -/
def dist (cb : Book) (r : Row) (k : Fin 1024) : EReal :=
  (∑ j, r j * r j + ∑ j, cb k j * cb k j) - 2 * ∑ j, r j * cb k j

/-- The code of a row: the first nearest row of the book. -/
def nearest (cb : Book) (r : Row) : Fin 1024 := firstMin (dist cb r)

/-- What is left of the row `z` after `l` levels. -/
def left (cb : Book) (z : Row) : ℕ → Row
  | 0 => z
  | l + 1 => fun j => left cb z l j - cb (nearest cb (left cb z l)) j

/-- The code of the row `z` at level `l`. -/
def code (cb : Book) (z : Row) (l : ℕ) : Fin 1024 := nearest cb (left cb z l)

/-- What the first `l` levels take off the row `z`: the sum of the rows of the book they name. -/
def taken (cb : Book) (z : Row) : ℕ → Row
  | 0 => fun _ => 0
  | l + 1 => fun j => taken cb z l j + cb (code cb z l) j

/-- The squared error of the row `z` at level `l`. -/
def err (cb : Book) (z : Row) (l : ℕ) : EReal :=
  ∑ j, (cb (code cb z l) j - left cb z l j) * (cb (code cb z l) j - left cb z l j)

/-- The next residual, in terms of the code. -/
theorem left_succ (cb : Book) (z : Row) (l : ℕ) (j : Fin 32) :
    left cb z (l + 1) j = left cb z l j - cb (code cb z l) j := rfl

/-- A square is not negative. -/
theorem square_nonneg (x : EReal) : 0 ≤ x * x := by
  rcases le_total 0 x with h | h
  · exact mul_nonneg h h
  · have h' : 0 ≤ -x := EReal.neg_nonneg.mpr h
    have : x * x = -x * -x := by rw [EReal.neg_mul, mul_comm x (-x), EReal.neg_mul, neg_neg]
    rw [this]
    exact mul_nonneg h' h'

/-- A squared error is not negative. -/
theorem err_nonneg (cb : Book) (z : Row) (l : ℕ) : 0 ≤ err cb z l :=
  Finset.sum_nonneg fun _ _ => square_nonneg _

/-- The square of a difference does not depend on its sense. -/
theorem square_sub_comm (x y : EReal) : (x - y) * (x - y) = (y - x) * (y - x) := by
  induction x <;> induction y <;>
    first
      | rfl
      | (norm_cast; ring)

/-- A finite factor that is not negative goes into a sum. -/
theorem mul_sum {n : ℕ} (c : EReal) (h0 : 0 ≤ c) (ht : c ≠ ⊤) (f : Fin n → EReal) :
    c * ∑ k, f k = ∑ k, c * f k := by
  induction n with
  | zero => simp
  | succ n ih => rw [Fin.sum_univ_succ, Fin.sum_univ_succ, EReal.left_distrib_of_nonneg_of_ne_top h0 ht, ih]

/-- Twice an inner product is the inner product of the doubled row. -/
theorem two_mul_inner (r c : Row) : 2 * ∑ j, r j * c j = ∑ j, 2 * r j * c j := by
  rw [mul_sum 2 (by norm_num) (by exact EReal.coe_ne_top 2)]
  exact Finset.sum_congr rfl fun j _ => (mul_assoc _ _ _).symm

/-- A finite number taken off and put back leaves what was there. -/
theorem add_sub_cancel_finite (x : ℝ) (y : EReal) : (x : EReal) + (y - x) = y := by
  induction y with
  | bot => rfl
  | top => rfl
  | coe y => norm_cast; ring

/-- A sum over a column that is one at one place and zero elsewhere picks that place out. -/
theorem sum_pick {n : ℕ} (k : Fin n) (f : Fin n → EReal) :
    ∑ j, (if j = k then (1 : EReal) else 0) * f j = f k := by
  rw [Finset.sum_eq_single k]
  · simp
  · intro j _ h; simp [h]
  · simp

end Rvq
-- ==== Proof.Words.lean ====
/-
  The 32-bit words and the float constants that the programs use, as numbers: the least of a family of words, the first
  place of a least number found through words, a one-hot entry.
-/
module

public import proofs.«01_k».proof.Proof.Spec
public import Idealize.ShloMosaic.Lib.Pointwise
public import Idealize.ShloMosaic.Lib.WordArith

@[expose] public section

noncomputable section

open Idealize.ShloMosaic

namespace Rvq.Words

/-- The pattern of `2.0`. -/
theorem ofBits_two : Ideal.ofBits .f32 0x40000000#32 = 2 := by
  simp [Ideal.ofBits, Ideal.ieee]
  rw [← EReal.coe_mul]
  norm_num
  rfl

/-- The pattern of the float infinity. -/
theorem ofBits_top : Ideal.ofBits .f32 0x7F800000#32 = ⊤ := by
  simp [Ideal.ofBits, Ideal.ieee]

/-- The number of the image's elements, as printed. -/
theorem ofBits_count : Ideal.ofBits .f32 0x4A000000#32 = ((2097152 : ℝ) : EReal) := by
  simp [Ideal.ofBits, Ideal.ieee]
  rw [← EReal.coe_mul]
  norm_num

/-- A quarter, as printed. -/
theorem ofBits_quarter : Ideal.ofBits .f32 0x3E800000#32 = ((0.25 : ℝ) : EReal) := by
  simp [Ideal.ofBits, Ideal.ieee]
  rw [← EReal.coe_mul]
  norm_num

/-- The factor the squared errors take, as printed: five quarters over the number of elements. -/
theorem ofBits_share : Ideal.ofBits .f32 0x35200000#32 = ((1.25 / 2097152 : ℝ) : EReal) := by
  simp [Ideal.ofBits, Ideal.ieee]
  rw [← EReal.coe_mul]
  norm_num

/-- A number below 1025 is kept by its word. -/
theorem toNat_ofNat {n : ℕ} (h : n ≤ 1024) : (BitVec.ofNat 32 n).toNat = n := by
  rw [BitVec.toNat_ofNat]
  omega

/-- The signed least of words with a clear top bit, as a number. -/
theorem toNat_fold_minsi {n : ℕ} (c : BitVec 32) (hc : c.toNat < 2 ^ 31) (f : Fin n → BitVec 32)
    (hf : ∀ k, (f k).toNat < 2 ^ 31) (s : Finset (Fin n)) :
    (s.fold IntOp.minsi c f).toNat = s.fold min c.toNat fun k => (f k).toNat := by
  classical
  have key : (s.fold IntOp.minsi c f).toNat = (s.fold min c.toNat fun k => (f k).toNat)
      ∧ (s.fold IntOp.minsi c f).toNat < 2 ^ 31 := by
    induction s using Finset.induction_on with
    | empty => exact ⟨rfl, hc⟩
    | insert a s ha ih =>
      rw [Finset.fold_insert ha, Finset.fold_insert ha, WordArith.toNat_minsi_of_lt _ _ (hf a) ih.2, ih.1]
      refine ⟨rfl, lt_of_le_of_lt (min_le_left _ _) (hf a)⟩
  exact key.1

/-- Marking the least places of a row by their number and the others by 1024, the least mark is the first least place. -/
theorem fold_first_least (d : Fin 1024 → EReal) :
    Finset.univ.fold IntOp.minsi 2147483647#32
      (fun x => if d x = Finset.univ.fold min ⊤ (fun k => d k) then BitVec.ofNat 32 x.val else 1024#32)
    = BitVec.ofNat 32 (firstMin d).val := by
  have hm : ∀ x, (d x = Finset.univ.fold min ⊤ (fun k => d k)) ↔ ∀ j, d x ≤ d j := by
    intro x
    constructor
    · intro h j
      rw [h]
      exact (Finset.fold_min_le (d j)).mpr (.inr ⟨j, Finset.mem_univ _, le_rfl⟩)
    · intro h
      refine le_antisymm (Finset.le_fold_min _ |>.mpr ⟨le_top, fun j _ => h j⟩) ?_
      exact (Finset.fold_min_le _).mpr (.inr ⟨x, Finset.mem_univ _, le_rfl⟩)
  have hb : ∀ x : Fin 1024, (if d x = Finset.univ.fold min ⊤ (fun k => d k) then BitVec.ofNat 32 x.val
      else 1024#32).toNat = if ∀ j, d x ≤ d j then x.val else 1024 := by
    intro x
    by_cases h : ∀ j, d x ≤ d j
    · rw [if_pos ((hm x).mpr h), if_pos h, toNat_ofNat (by omega)]
    · rw [if_neg (mt (hm x).mp h), if_neg h]; rfl
  have hlt := (firstMin d).isLt
  have hmark : ∀ x : Fin 1024, (if ∀ j, d x ≤ d j then x.val else 1024) < 2 ^ 31 := by
    intro x
    have := x.isLt
    by_cases h : ∀ j, d x ≤ d j
    · rw [if_pos h]; omega
    · rw [if_neg h]; omega
  have hleast : (Finset.univ.fold min 2147483647 fun x : Fin 1024 => if ∀ j, d x ≤ d j then x.val else 1024)
      = (firstMin d).val := by
    refine le_antisymm ?_ ((Finset.le_fold_min _).mpr ⟨by omega, fun x _ => ?_⟩)
    · refine (Finset.fold_min_le _).mpr (.inr ⟨firstMin d, Finset.mem_univ _, ?_⟩)
      rw [if_pos (firstMin_le d)]
    · by_cases h : ∀ j, d x ≤ d j
      · rw [if_pos h]; exact firstMin_first d x h
      · rw [if_neg h]; omega
  apply BitVec.eq_of_toNat_eq
  refine (toNat_fold_minsi _ (by decide) _ (fun x => (hb x).symm ▸ hmark x) _).trans ?_
  refine Eq.trans ?_ (toNat_ofNat (by omega)).symm
  refine Eq.trans ?_ hleast
  rw [show (2147483647#32).toNat = 2147483647 from rfl, funext hb]

/-- An entry of a one-hot row, as an extended real. -/
theorem one_hot (x k : Fin 1024) :
    (FloatOps.sitofp .f32 (BitVec.setWidth 32 (IntOp.cmpi .eq (BitVec.ofNat 32 x.val) (BitVec.ofNat 32 k.val))) : Ideal .f32)
      = if x = k then (1 : EReal) else 0 := by
  have h : (BitVec.ofNat 32 x.val = BitVec.ofNat 32 k.val) ↔ x = k := by
    constructor
    · intro h
      have := congrArg BitVec.toNat h
      rw [toNat_ofNat (by omega), toNat_ofNat (by omega)] at this
      exact Fin.ext this
    · rintro rfl; rfl
  show (((BitVec.setWidth 32 (BitVec.ofBool (BitVec.ofNat 32 x.val == BitVec.ofNat 32 k.val))).toInt : ℝ) : EReal) = _
  by_cases e : x = k
  · rw [if_pos e, beq_iff_eq.mpr (h.mpr e), show (BitVec.setWidth 32 (BitVec.ofBool true)).toInt = 1 from by decide]
    norm_num
  · rw [if_neg e, beq_eq_false_iff_ne.mpr (mt h.mp e), show (BitVec.setWidth 32 (BitVec.ofBool false)).toInt = 0 from by decide]
    norm_num

end Rvq.Words
-- ==== Proof.TileLevel.lean ====
/-
  One level of the coding of a block of 1024 rows, as the kernel computes it: the distances to the book, the codes, the
  rows of the book they name, the squared error. Each is stated once, over the block that is left at that level; the
  kernel computes the same expressions six times.
-/
module

public import proofs.«01_k».proof.Proof.Words
public import proofs.«01_k».proof.Proof.Gen.KernelIdeal.Skeleton
public import Idealize.ShloMosaic.Lib.Pointwise

@[expose] public section

set_option maxRecDepth 16384

noncomputable section

open Idealize.ShloMosaic Idealize.SL.Sem

namespace Cert.KernelIdeal.Tile

open Cert.KernelIdeal Cert.KernelIdeal.Gen

variable {F : FTy → Type} [FloatOps F]

/-- The column numbers of a block of distances. -/
def cols : IVec S1024x1024 32 := iota .tc S1024x1024 32 [1] iota_S1024x1024_d1_w32

/-- The squared norms of the rows of a block, along the rows of a block of distances. -/
def norms (r : FVec F S1024x32 .f32) : FVec F S1024x1024 .f32 :=
  broadcastTo S1024x1024 (shapeCast S1024x1 (multiReduction .add [1] S1024 (mulf r r) 0x00000000#32
    reduces_S1024x32_S1024 (.inl rfl) rfl) shapeCasts_S1024_S1024x1) broadcasts_S1024x1_S1024x1024

/-- The distances of the rows of a block to the rows of the book, from the sums of the squared norms. -/
def distsFrom (n : FVec F S1024x1024 .f32) (r : FVec F S1024x32 .bf16) (ct : FVec F S32x1024 .bf16) :
    FVec F S1024x1024 .f32 :=
  subf n (mulf (broadcast S1024x1024 (Scalar.ofBits .f32 0x40000000#32))
    (matmul dot_S1024x32_S32x1024_S1024x1024_1_0_0_1_n_n none r ct (constant S1024x1024 .f32 0x00000000#32)))

/-- The sums of the squared norms. -/
def normSums (csq : FVec F S1x1024 .f32) (r : FVec F S1024x32 .f32) : FVec F S1024x1024 .f32 :=
  addf (norms r) (broadcastTo S1024x1024 csq broadcasts_S1x1024_S1024x1024)

/-- The distances of the rows of a block to the rows of the book. -/
def dists (ct : FVec F S32x1024 .f32) (csq : FVec F S1x1024 .f32) (r : FVec F S1024x32 .f32) :
    FVec F S1024x1024 .f32 :=
  distsFrom (normSums csq r) (truncf .bf16 r bitsLt_bf16_f32) (truncf .bf16 ct bitsLt_bf16_f32)

/-- The codes: the least column number whose distance is the least of its row. -/
def codes (d : FVec F S1024x1024 .f32) : IVec S1024 32 :=
  multiReductionI .minsi [1] S1024
    (select (cmpf .oeq d (broadcastTo S1024x1024 (shapeCast S1024x1
      (multiReduction .minimumf [1] S1024 d 0x7F800000#32 reduces_S1024x1024_S1024 (.inl rfl) rfl)
      shapeCasts_S1024_S1024x1) broadcasts_S1024x1_S1024x1024)) cols (broadcast S1024x1024 1024#32))
    2147483647#32 reduces_S1024x1024_S1024 rfl

/-- The rows of the book that the codes name: the product of the codes' one-hot rows with the book. -/
def rows (cb : FVec F S1024x32 .f32) (idx : IVec S1024 32) : FVec F S1024x32 .f32 :=
  matmul dot_S1024x1024_S1024x32_S1024x32_1_0_0_1_n_n (some .fp32)
    (sitofp .f32 (extui 32 (cmpi .eq cols (broadcastTo S1024x1024 (shapeCast S1024x1 idx shapeCasts_S1024_S1024x1)
      broadcasts_S1024x1_S1024x1024)) natLt_1_32)) cb (constant S1024x32 .f32 0x00000000#32)

/-- The squared error of a block: the sum over its rows and columns of the squared differences. -/
def sqErr (d : FVec F S1024x32 .f32) : F .f32 :=
  extractAt ![0, 0, 0] (shapeCast S1x1x1 (multiReduction .add [1, 2] S1 (shapeCast S1x1024x32 (mulf d d)
    shapeCasts_S1024x32_S1x1024x32) 0x00000000#32 reduces_S1x1024x32_S1 (.inl rfl) rfl) shapeCasts_S1_S1x1x1)
    inpos_S1x1x1_p0_0_0

/-- What is left of a block after a number of levels. -/
def leftAt (ct : FVec F S32x1024 .f32) (cb : FVec F S1024x32 .f32) (z : FVec F S1024x32 .f32) : ℕ → FVec F S1024x32 .f32
  | 0 => z
  | l + 1 => subf (leftAt ct cb z l) (rows cb (codes (dists ct (k0_pay3 cb) (leftAt ct cb z l))))

/-- The codes of a block at a level. -/
def codesAt (ct : FVec F S32x1024 .f32) (cb : FVec F S1024x32 .f32) (z : FVec F S1024x32 .f32) (l : ℕ) : IVec S1024 32 :=
  codes (dists ct (k0_pay3 cb) (leftAt ct cb z l))

/-- The rows of the book a block takes at a level. -/
def rowsAt (ct : FVec F S32x1024 .f32) (cb : FVec F S1024x32 .f32) (z : FVec F S1024x32 .f32) (l : ℕ) :
    FVec F S1024x32 .f32 := rows cb (codesAt ct cb z l)

/-- What a block has taken after a number of levels. -/
def takenAt (ct : FVec F S32x1024 .f32) (cb : FVec F S1024x32 .f32) (z : FVec F S1024x32 .f32) : ℕ → FVec F S1024x32 .f32
  | 0 => broadcast S1024x32 (Scalar.ofBits .f32 0x00000000#32)
  | l + 1 => addf (takenAt ct cb z l) (rowsAt ct cb z l)

/-- The squared errors of a block summed over a number of levels. -/
def errAt (ct : FVec F S32x1024 .f32) (cb : FVec F S1024x32 .f32) (z : FVec F S1024x32 .f32) : ℕ → F .f32
  | 0 => Scalar.ofBits .f32 0x00000000#32
  | l + 1 => Scalar.addf (errAt ct cb z l) (sqErr (subf (rowsAt ct cb z l) (leftAt ct cb z l)))

/-! ### At the extended reals, one row at a time -/

/-- Row `i` of a block. -/
def row (r : FVec Ideal S1024x32 .f32) (i : Fin 1024) : Rvq.Row := fun j => r (ix2 i j)

/-- The book a block of 1024 rows is. -/
def book (cb : FVec Ideal S1024x32 .f32) : Rvq.Book := fun k j => cb (ix2 k j)

/-- The distances of row `i` of a block are its distances to the book, where the transposed book is the book. -/
theorem dists_apply (ct : FVec Ideal S32x1024 .f32) (cb : FVec Ideal S1024x32 .f32)
    (hct : ∀ j k, ct (ix2 j k) = cb (ix2 k j)) (r : FVec Ideal S1024x32 .f32) (i k : Fin 1024) :
    dists ct (k0_pay3 cb) r (ix2 i k) = Rvq.dist (book cb) (row r i) k := by
  unfold k0_pay3
  pointwise [dists, distsFrom, normSums, norms, Rvq.dist, row, book]
  simp only [Rvq.Words.ofBits_two, hct]

/-- The code of row `i` is the first place where its distance is least. -/
theorem codes_apply (d : FVec Ideal S1024x1024 .f32) (i : Fin 1024) :
    codes d (ix1 i) = BitVec.ofNat 32 (Rvq.firstMin fun k => d (ix2 i k)).val := by
  pointwise [codes, cols]
  rw [Rvq.Words.ofBits_top]
  exact Rvq.Words.fold_first_least (fun k => d (ix2 i k))

/-- Row `i` of the rows taken is the row of the book that the code of `i` names. -/
theorem rows_apply (cb : FVec Ideal S1024x32 .f32) (idx : IVec S1024 32) (i k : Fin 1024)
    (h : idx (ix1 i) = BitVec.ofNat 32 k.val) (j : Fin 32) : rows cb idx (ix2 i j) = book cb k j := by
  pointwise [rows, cols, book]
  rw [h]
  refine Eq.trans (Finset.sum_congr rfl fun x _ => ?_) (Rvq.sum_pick k fun x => cb (ix2 x j))
  rw [Rvq.Words.one_hot x k]

/-- The squared error of a block is the sum of the squares of its entries. -/
theorem sqErr_eq (d : FVec Ideal S1024x32 .f32) :
    sqErr d = ∑ i : Fin 1024, ∑ j : Fin 32, row d i j * row d i j := by
  pointwise [sqErr, row]

/-! ### The levels, one row at a time -/

section Levels

variable (ct : FVec Ideal S32x1024 .f32) (cb z : FVec Ideal S1024x32 .f32)
  (hct : ∀ j k, ct (ix2 j k) = cb (ix2 k j))

include hct

/-- The code of row `i`, from what is left of it. -/
theorem codes_dists (r : FVec Ideal S1024x32 .f32) (i : Fin 1024) :
    codes (dists ct (k0_pay3 cb) r) (ix1 i) = BitVec.ofNat 32 (Rvq.nearest (book cb) (row r i)).val := by
  rw [codes_apply, funext fun k => dists_apply ct cb hct r i k]
  rfl

/-- What is left of row `i` after a number of levels. -/
theorem row_leftAt (i : Fin 1024) (l : ℕ) : row (leftAt ct cb z l) i = Rvq.left (book cb) (row z i) l := by
  induction l with
  | zero => rfl
  | succ l ih =>
    funext j
    show leftAt ct cb z l (ix2 i j) - rows cb (codes (dists ct (k0_pay3 cb) (leftAt ct cb z l))) (ix2 i j) = _
    rw [rows_apply cb _ i _ (codes_dists ct cb hct _ i) j, ih,
      show leftAt ct cb z l (ix2 i j) = Rvq.left (book cb) (row z i) l j from congrFun ih j, Rvq.left_succ, Rvq.code]

/-- The code of row `i` at a level. -/
theorem codesAt_apply (i : Fin 1024) (l : ℕ) :
    codesAt ct cb z l (ix1 i) = BitVec.ofNat 32 (Rvq.code (book cb) (row z i) l).val := by
  rw [codesAt, codes_dists ct cb hct, row_leftAt ct cb z hct]
  rfl

/-- The row of the book that row `i` takes at a level. -/
theorem rowsAt_apply (i : Fin 1024) (l : ℕ) (j : Fin 32) :
    rowsAt ct cb z l (ix2 i j) = book cb (Rvq.code (book cb) (row z i) l) j :=
  rows_apply cb _ i _ (codesAt_apply ct cb z hct i l) j

/-- What row `i` has taken after a number of levels. -/
theorem row_takenAt (i : Fin 1024) (l : ℕ) : row (takenAt ct cb z l) i = Rvq.taken (book cb) (row z i) l := by
  induction l with
  | zero => funext j; exact Ideal.ofBits_zero_f32
  | succ l ih =>
    funext j
    show row (takenAt ct cb z l) i j + rowsAt ct cb z l (ix2 i j) = _
    rw [ih, rowsAt_apply ct cb z hct]
    rfl

/-- The squared error of a block at a level is the sum of its rows' errors. -/
theorem sqErr_level (l : ℕ) : sqErr (subf (rowsAt ct cb z l) (leftAt ct cb z l))
    = ∑ i : Fin 1024, Rvq.err (book cb) (row z i) l := by
  rw [sqErr_eq]
  refine Finset.sum_congr rfl fun i _ => Finset.sum_congr rfl fun j _ => ?_
  have h : row (subf (rowsAt ct cb z l) (leftAt ct cb z l)) i j
      = book cb (Rvq.code (book cb) (row z i) l) j - Rvq.left (book cb) (row z i) l j := by
    rw [← rowsAt_apply ct cb z hct, ← row_leftAt ct cb z hct]
    rfl
  rw [h]

/-- The squared errors of a block summed over a number of levels. -/
theorem errAt_eq (l : ℕ) : errAt ct cb z l
    = ∑ v ∈ Finset.range l, ∑ i : Fin 1024, Rvq.err (book cb) (row z i) v := by
  induction l with
  | zero => exact Ideal.ofBits_zero_f32
  | succ l ih =>
    rw [Finset.sum_range_succ, ← sqErr_level ct cb z hct l, ← ih]
    rfl

end Levels

end Cert.KernelIdeal.Tile
-- ==== Proof.TilePayloads.lean ====
/-
  What the kernel stores for a block is what the six levels give. The kernel's printed values are named one by one in
  the order it computes them; each is one of the level's expressions of the values before it.
-/
module

public import proofs.«01_k».proof.Proof.TileLevel

@[expose] public section

set_option maxRecDepth 16384

noncomputable section

open Idealize.ShloMosaic Idealize.SL.Sem

namespace Cert.KernelIdeal.Tile

open Cert.KernelIdeal Cert.KernelIdeal.Gen

variable {F : FTy → Type} [FloatOps F]

/-! ### Each printed value in terms of a level -/

section Values

variable (ct : FVec F S32x1024 .f32) (cb z r e q : FVec F S1024x32 .f32) (csq : FVec F S1x1024 .f32)
  (d : FVec F S1024x1024 .f32) (s a : F .f32)

/-- A block read is the block. -/
theorem pay1_eq : k0_pay1 z = z := shapeCast_self _ _
/-- The transposed book read is the transposed book. -/
theorem pay2_eq : k0_pay2 ct = ct := shapeCast_self _ _

/-- The codes of level 0. -/
theorem pay4_eq : k0_pay4 z ct cb = codes (dists (k0_pay2 ct) (k0_pay3 cb) (k0_pay1 z)) := rfl
/-- The rows of level 0. -/
theorem pay5_eq : k0_pay5 z ct cb = rows cb (k0_pay4 z ct cb) := rfl
/-- What is taken at level 0. -/
theorem pay6_eq : k0_pay6 z ct cb = addf (broadcast S1024x32 (Scalar.ofBits .f32 0x00000000#32)) (k0_pay5 z ct cb) := rfl
/-- The error of level 0. -/
theorem pay7_eq : k0_pay7 z ct cb = sqErr (subf (k0_pay5 z ct cb) (k0_pay1 z)) := rfl
/-- The codes of level 1. -/
theorem pay9_eq : k0_pay9 r ct csq cols e = codes (dists ct csq (subf r e)) := rfl
/-- The rows of level 1. -/
theorem pay10_eq : k0_pay10 r ct cb csq cols e = rows cb (codes (dists ct csq (subf r e))) := rfl
/-- What is taken up to level 1. -/
theorem pay11_eq : k0_pay11 r ct cb csq cols e q = addf q (k0_pay10 r ct cb csq cols e) := rfl
/-- The errors up to level 1. -/
theorem pay12_eq : k0_pay12 r ct cb csq cols e s a
    = Scalar.addf (Scalar.addf a s) (sqErr (subf (k0_pay10 r ct cb csq cols e) (subf r e))) := rfl
/-- What is left after level 1. -/
theorem pay13_eq : k0_pay13 r ct cb csq cols e = subf (subf r e) (k0_pay10 r ct cb csq cols e) := rfl
/-- The distances of level 2. -/
theorem pay14_eq : k0_pay14 r ct cb csq cols e = dists ct csq (k0_pay13 r ct cb csq cols e) := rfl
/-- The codes of level 2. -/
theorem pay15_eq : k0_pay15 cols d = codes d := rfl
/-- The rows of level 2. -/
theorem pay16_eq : k0_pay16 cb cols d = rows cb (codes d) := rfl
/-- The errors up to level 2. -/
theorem pay17_eq : k0_pay17 cb cols s r d = Scalar.addf s (sqErr (subf (rows cb (codes d)) r)) := rfl
/-- What is left after level 2. -/
theorem pay18_eq : k0_pay18 cb cols r d = subf r (rows cb (codes d)) := rfl
/-- The codes of level 3. -/
theorem pay19_eq : k0_pay19 ct cb csq cols r d = codes (dists ct csq (k0_pay18 cb cols r d)) := rfl
/-- The rows of level 3. -/
theorem pay20_eq : k0_pay20 ct cb csq cols r d = rows cb (k0_pay19 ct cb csq cols r d) := rfl
/-- What is taken up to level 3. -/
theorem pay21_eq : k0_pay21 ct cb csq cols q r d
    = addf (addf q (rows cb (codes d))) (k0_pay20 ct cb csq cols r d) := rfl
/-- The difference whose squares are the error of level 3. -/
theorem pay22_eq : k0_pay22 ct cb csq cols r d = subf (k0_pay20 ct cb csq cols r d) (k0_pay18 cb cols r d) := rfl
/-- The codes of level 4. -/
theorem pay24_eq : k0_pay24 ct csq cols r e = codes (dists ct csq (subf r e)) := rfl
/-- The rows of level 4. -/
theorem pay25_eq : k0_pay25 ct cb csq cols r e = rows cb (codes (dists ct csq (subf r e))) := rfl
/-- What is taken up to level 4. -/
theorem pay26_eq : k0_pay26 ct cb csq cols r e q = addf q (k0_pay25 ct cb csq cols r e) := rfl
/-- The errors up to level 4. -/
theorem pay27_eq : k0_pay27 ct cb csq cols s r e q
    = Scalar.addf (Scalar.addf s (sqErr q)) (sqErr (subf (k0_pay25 ct cb csq cols r e) (subf r e))) := rfl
/-- What is left after level 4. -/
theorem pay28_eq : k0_pay28 ct cb csq cols r e = subf (subf r e) (k0_pay25 ct cb csq cols r e) := rfl
/-- The sums of squared norms of level 5. -/
theorem pay29_eq : k0_pay29 ct cb csq cols r e = normSums csq (k0_pay28 ct cb csq cols r e) := rfl
/-- What is left after level 4, narrowed. -/
theorem pay30_eq : k0_pay30 ct cb csq cols r e = truncf .bf16 (k0_pay28 ct cb csq cols r e) bitsLt_bf16_f32 := rfl
/-- The transposed book, narrowed. -/
theorem pay31_eq : k0_pay31 ct = truncf .bf16 ct bitsLt_bf16_f32 := rfl
/-- The codes of level 5. -/
theorem pay32_eq (n : FVec F S1024x1024 .f32) : k0_pay32 cols n (truncf .bf16 r bitsLt_bf16_f32)
    (truncf .bf16 ct bitsLt_bf16_f32) (constant S1024x1024 .f32 0x00000000#32)
    = codes (distsFrom n (truncf .bf16 r bitsLt_bf16_f32) (truncf .bf16 ct bitsLt_bf16_f32)) := rfl
/-- The rows of level 5. -/
theorem pay33_eq (n : FVec F S1024x1024 .f32) : k0_pay33 cb cols n (truncf .bf16 r bitsLt_bf16_f32)
    (truncf .bf16 ct bitsLt_bf16_f32) (constant S1024x1024 .f32 0x00000000#32)
    = rows cb (codes (distsFrom n (truncf .bf16 r bitsLt_bf16_f32) (truncf .bf16 ct bitsLt_bf16_f32))) := rfl

end Values

/-! ### What the kernel stores -/

section Stores

variable (z : FVec F S1024x32 .f32) (ct : FVec F S32x1024 .f32) (cb : FVec F S1024x32 .f32)

/-- What is left after level 0, as the kernel names it. -/
abbrev e0 : FVec F S1024x32 .f32 := k0_pay5 z ct cb
/-- The distances of level 2, as the kernel names them. -/
abbrev d2 : FVec F S1024x1024 .f32 := k0_pay14 (k0_pay1 z) (k0_pay2 ct) cb (k0_pay3 cb) cols (e0 z ct cb)
/-- What is left before level 2, as the kernel names it. -/
abbrev r2 : FVec F S1024x32 .f32 := k0_pay13 (k0_pay1 z) (k0_pay2 ct) cb (k0_pay3 cb) cols (e0 z ct cb)
/-- What is left before level 3, as the kernel names it. -/
abbrev r3 : FVec F S1024x32 .f32 := k0_pay18 cb cols (r2 z ct cb) (d2 z ct cb)
/-- The rows of level 3, as the kernel names them. -/
abbrev e3 : FVec F S1024x32 .f32 := k0_pay20 (k0_pay2 ct) cb (k0_pay3 cb) cols (r2 z ct cb) (d2 z ct cb)

/-- The rows of level 0. -/
theorem e0_eq : e0 z ct cb = rowsAt ct cb z 0 := by
  rw [e0, pay5_eq, pay4_eq, pay1_eq, pay2_eq]; rfl
/-- What is left before level 2. -/
theorem r2_eq : r2 z ct cb = leftAt ct cb z 2 := by
  rw [r2, pay13_eq, pay10_eq, e0_eq, pay1_eq, pay2_eq]; rfl
/-- The distances of level 2. -/
theorem d2_eq : d2 z ct cb = dists ct (k0_pay3 cb) (leftAt ct cb z 2) := by
  rw [d2, pay14_eq, ← r2_eq, r2, pay2_eq]
/-- What is left before level 3. -/
theorem r3_eq : r3 z ct cb = leftAt ct cb z 3 := by
  rw [r3, pay18_eq, r2_eq, d2_eq]; rfl
/-- The codes of level 3. -/
theorem i3_eq : k0_pay19 (k0_pay2 ct) cb (k0_pay3 cb) cols (r2 z ct cb) (d2 z ct cb) = codesAt ct cb z 3 := by
  rw [pay19_eq, pay2_eq, show k0_pay18 cb cols (r2 z ct cb) (d2 z ct cb) = leftAt ct cb z 3 from r3_eq z ct cb]; rfl
/-- The rows of level 3. -/
theorem e3_eq : e3 z ct cb = rowsAt ct cb z 3 := by
  rw [e3, pay20_eq, i3_eq]; rfl
/-- What is left before level 4. -/
theorem r4_eq : subf (r3 z ct cb) (e3 z ct cb) = leftAt ct cb z 4 := by
  rw [r3_eq, e3_eq]; rfl
/-- The rows of level 4. -/
theorem e4_eq : k0_pay25 (k0_pay2 ct) cb (k0_pay3 cb) cols (r3 z ct cb) (e3 z ct cb) = rowsAt ct cb z 4 := by
  rw [pay25_eq, r4_eq, pay2_eq]; rfl
/-- What is left before level 5. -/
theorem r5_eq : k0_pay28 (k0_pay2 ct) cb (k0_pay3 cb) cols (r3 z ct cb) (e3 z ct cb) = leftAt ct cb z 5 := by
  rw [pay28_eq, r4_eq, e4_eq]; rfl

/-- The words that enter level 5's distances. -/
abbrev n5 : FVec F S1024x1024 .f32 := k0_pay29 (k0_pay2 ct) cb (k0_pay3 cb) cols (r3 z ct cb) (e3 z ct cb)
/-- What is left before level 5, narrowed. -/
abbrev t5 : FVec F S1024x32 .bf16 := k0_pay30 (k0_pay2 ct) cb (k0_pay3 cb) cols (r3 z ct cb) (e3 z ct cb)

/-- The codes of level 5. -/
theorem i5_eq : k0_pay32 cols (n5 z ct cb) (t5 z ct cb) (k0_pay31 (k0_pay2 ct)) (constant S1024x1024 .f32 0x00000000#32)
    = codesAt ct cb z 5 := by
  rw [t5, pay30_eq, pay31_eq, pay32_eq, n5, pay29_eq, r5_eq, pay2_eq]; rfl
/-- The rows of level 5. -/
theorem e5_eq : k0_pay33 cb cols (n5 z ct cb) (t5 z ct cb) (k0_pay31 (k0_pay2 ct)) (constant S1024x1024 .f32 0x00000000#32)
    = rowsAt ct cb z 5 := by
  rw [t5, pay30_eq, pay31_eq, pay33_eq, n5, pay29_eq, r5_eq, pay2_eq]; rfl

/-- What is taken up to level 1. -/
abbrev q2 : FVec F S1024x32 .f32 :=
  k0_pay11 (k0_pay1 z) (k0_pay2 ct) cb (k0_pay3 cb) cols (e0 z ct cb) (k0_pay6 z ct cb)
/-- What is taken up to level 3. -/
abbrev q4 : FVec F S1024x32 .f32 := k0_pay21 (k0_pay2 ct) cb (k0_pay3 cb) cols (q2 z ct cb) (r2 z ct cb) (d2 z ct cb)
/-- What is taken up to level 4. -/
abbrev q5 : FVec F S1024x32 .f32 := k0_pay26 (k0_pay2 ct) cb (k0_pay3 cb) cols (r3 z ct cb) (e3 z ct cb) (q4 z ct cb)

/-- What is taken up to level 1. -/
theorem q2_eq : q2 z ct cb = takenAt ct cb z 2 := by
  rw [q2, pay11_eq, pay10_eq, pay6_eq, e0_eq, pay1_eq, pay2_eq]
  change addf (addf _ (e0 z ct cb)) _ = _
  rw [e0_eq]; rfl
/-- What is taken up to level 3. -/
theorem q4_eq : q4 z ct cb = takenAt ct cb z 4 := by
  rw [q4, pay21_eq, q2_eq, d2_eq]
  change addf (addf _ _) (k0_pay20 (k0_pay2 ct) cb (k0_pay3 cb) cols (r2 z ct cb) _) = _
  rw [← d2_eq, show k0_pay20 (k0_pay2 ct) cb (k0_pay3 cb) cols (r2 z ct cb) (d2 z ct cb) = _ from e3_eq z ct cb, d2_eq]; rfl
/-- What is taken up to level 4. -/
theorem q5_eq : q5 z ct cb = takenAt ct cb z 5 := by
  rw [q5, pay26_eq, e4_eq, q4_eq]; rfl

/-- The block the kernel stores to its first result: what six levels take. -/
theorem taken_stored : k0_pay34 cb cols (q5 z ct cb) (n5 z ct cb) (t5 z ct cb) (k0_pay31 (k0_pay2 ct))
    (constant S1024x1024 .f32 0x00000000#32) = takenAt ct cb z 6 := by
  change addf (q5 z ct cb) (k0_pay33 cb cols _ _ _ _) = _
  rw [e5_eq, q5_eq]; rfl

/-- The errors up to level 1. -/
abbrev s2 : F .f32 := k0_pay12 (k0_pay1 z) (k0_pay2 ct) cb (k0_pay3 cb) cols (e0 z ct cb) (k0_pay7 z ct cb)
  (Scalar.ofBits .f32 0x00000000#32)
/-- The errors up to level 2. -/
abbrev s3 : F .f32 := k0_pay17 cb cols (s2 z ct cb) (r2 z ct cb) (d2 z ct cb)
/-- The errors up to level 4. -/
abbrev s5 : F .f32 := k0_pay27 (k0_pay2 ct) cb (k0_pay3 cb) cols (s3 z ct cb) (r3 z ct cb) (e3 z ct cb)
  (k0_pay22 (k0_pay2 ct) cb (k0_pay3 cb) cols (r2 z ct cb) (d2 z ct cb))

/-- The errors up to level 1. -/
theorem s2_eq : s2 z ct cb = errAt ct cb z 2 := by
  rw [s2, pay12_eq, pay10_eq, pay7_eq, pay1_eq, pay2_eq]
  change Scalar.addf (Scalar.addf _ (sqErr (subf (e0 z ct cb) z))) (sqErr (subf (rows cb (codes (dists ct (k0_pay3 cb) (subf z (e0 z ct cb))))) (subf z (e0 z ct cb)))) = _
  rw [e0_eq]; rfl
/-- The errors up to level 2. -/
theorem s3_eq : s3 z ct cb = errAt ct cb z 3 := by
  rw [s3, pay17_eq, s2_eq, r2_eq, d2_eq]; rfl
/-- The errors up to level 4. -/
theorem s5_eq : s5 z ct cb = errAt ct cb z 5 := by
  rw [s5, pay27_eq, e4_eq, r4_eq, s3_eq, pay22_eq]
  change Scalar.addf (Scalar.addf _ (sqErr (subf (e3 z ct cb) (r3 z ct cb)))) _ = _
  rw [e3_eq, r3_eq]; rfl

/-- What the kernel adds to its third result: the errors of six levels. -/
theorem err_stored (a : Vec F S1x1 .f32) : k0_pay37 cb cols (s5 z ct cb)
    (k0_pay28 (k0_pay2 ct) cb (k0_pay3 cb) cols (r3 z ct cb) (e3 z ct cb)) (n5 z ct cb) (t5 z ct cb)
    (k0_pay31 (k0_pay2 ct)) (constant S1024x1024 .f32 0x00000000#32) a
    = addf a (broadcast S1x1 (errAt ct cb z 6)) := by
  change addf (shapeCast S1x1 a shapeCasts_S1x1_S1x1) (broadcast S1x1 (Scalar.addf (s5 z ct cb)
    (sqErr (subf (k0_pay33 cb cols _ _ _ _) (k0_pay28 (k0_pay2 ct) cb (k0_pay3 cb) cols (r3 z ct cb) (e3 z ct cb)))))) = _
  rw [e5_eq, r5_eq, s5_eq, shapeCast_self]; rfl

/-- The codes of the six levels, one row each. -/
def stackAt : IVec S6x1024 32 := concatenate S6x1024 0
  [⟨S1x1024, shapeCast S1x1024 (codesAt ct cb z 0) shapeCasts_S1024_S1x1024⟩,
   ⟨S1x1024, shapeCast S1x1024 (codesAt ct cb z 1) shapeCasts_S1024_S1x1024⟩,
   ⟨S1x1024, shapeCast S1x1024 (codesAt ct cb z 2) shapeCasts_S1024_S1x1024⟩,
   ⟨S1x1024, shapeCast S1x1024 (codesAt ct cb z 3) shapeCasts_S1024_S1x1024⟩,
   ⟨S1x1024, shapeCast S1x1024 (codesAt ct cb z 4) shapeCasts_S1024_S1x1024⟩,
   ⟨S1x1024, shapeCast S1x1024 (codesAt ct cb z 5) shapeCasts_S1024_S1x1024⟩]
  concatenates_S1x1024_S1x1024_S1x1024_S1x1024_S1x1024_S1x1024_S6x1024_d0

/-- The codes of level 0. -/
theorem i0_eq : k0_pay4 z ct cb = codesAt ct cb z 0 := by
  rw [pay4_eq, pay1_eq, pay2_eq]; rfl
/-- The codes of level 1. -/
theorem i1_eq : k0_pay9 (k0_pay1 z) (k0_pay2 ct) (k0_pay3 cb) cols (e0 z ct cb) = codesAt ct cb z 1 := by
  rw [pay9_eq, e0_eq, pay1_eq, pay2_eq]; rfl
/-- The codes of level 2. -/
theorem i2_eq : k0_pay15 cols (d2 z ct cb) = codesAt ct cb z 2 := by
  rw [pay15_eq, d2_eq]; rfl
/-- The codes of level 4. -/
theorem i4_eq : k0_pay24 (k0_pay2 ct) (k0_pay3 cb) cols (r3 z ct cb) (e3 z ct cb) = codesAt ct cb z 4 := by
  rw [pay24_eq, r4_eq, pay2_eq]; rfl

/-- The block of codes the kernel stores to its second result. -/
theorem codes_stored : k0_pay35 cols (k0_pay4 z ct cb)
    (k0_pay9 (k0_pay1 z) (k0_pay2 ct) (k0_pay3 cb) cols (e0 z ct cb)) (k0_pay15 cols (d2 z ct cb))
    (k0_pay19 (k0_pay2 ct) cb (k0_pay3 cb) cols (r2 z ct cb) (d2 z ct cb))
    (k0_pay24 (k0_pay2 ct) (k0_pay3 cb) cols (r3 z ct cb) (e3 z ct cb)) (n5 z ct cb) (t5 z ct cb)
    (k0_pay31 (k0_pay2 ct)) (constant S1024x1024 .f32 0x00000000#32) = stackAt z ct cb := by
  unfold k0_pay35
  rw [i0_eq, i1_eq, i2_eq, i3_eq, i4_eq, i5_eq]; rfl

end Stores

end Cert.KernelIdeal.Tile
-- ==== Proof.TileValue.lean ====
/-
  What the kernel leaves in its three staging buffers at one point of the grid: what the point's block of rows takes in
  six levels, its codes, and the running sum of the squared errors.
-/
module

public import proofs.«01_k».proof.Proof.TilePayloads
public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Tile

open Cert.KernelIdeal Cert.KernelIdeal.Gen

variable {F : FTy → Type} [FloatOps F]

/-- The origin of a two-dimensional buffer. -/
theorem origin : (![0, 0] : Fin 2 → Nat) = fun _ => 0 := funext fun a => by fin_cases a <;> rfl

section Point

variable (c : Dev nD) (i : grid0.Coords) (a1 : Memref sig .tc .vmem S1024x32 .f32) (h1 : a1.IsWhole)
    (a2 : Memref sig .tc .vmem S32x1024 .f32) (h2 : a2.IsWhole) (a3 : Memref sig .tc .vmem S1024x32 .f32) (h3 : a3.IsWhole)
    (a4 : Memref sig .tc .vmem S1024x32 .f32) (h4 : a4.IsWhole) (a5 : Memref sig .tc .vmem S6x1024 .i32) (h5 : a5.IsWhole)
    (a6 : Memref sig .tc .vmem S1x1 .f32) (h6 : a6.IsWhole)

/-- The first staging buffer at the first point: what six levels take. -/
theorem out_A_3 (hc : cond0_0 i) (z : Vec F S1024x32 .f32) (ct : Vec F S32x1024 .f32) (cb : Vec F S1024x32 .f32) :
    out0_A_3 c i a1 h1 a2 h2 a3 h3 a4 h4 a5 h5 a6 h6 hc z ct cb = takenAt ct cb z 6 := by
  unfold out0_A_3
  rw [View.read_writes_eq_canon _ _ _ (cover0_A_3 c i a1 h1 a2 h2 a3 h3 a4 h4 a5 h5 a6 h6 hc z ct cb)]
  unfold kernelRun0_A
  dsimp only
  sl_unfold_words
  rw [View.canon_unit_zero origin]
  simp only [View.readAt_eq_ld, h1.read_unread, h2.read_unread, h3.read_unread, View.ld_unit_zero (S := S1024x32) origin,
    View.ld_unit_zero (S := S32x1024) origin]
  exact taken_stored z ct cb

/-- The second staging buffer at the first point: the codes of six levels. -/
theorem out_A_4 (hc : cond0_0 i) (z : Vec F S1024x32 .f32) (ct : Vec F S32x1024 .f32) (cb : Vec F S1024x32 .f32) :
    out0_A_4 c i a1 h1 a2 h2 a3 h3 a4 h4 a5 h5 a6 h6 hc z ct cb = stackAt z ct cb := by
  unfold out0_A_4
  rw [View.read_writes_eq_canon _ _ _ (cover0_A_4 c i a1 h1 a2 h2 a3 h3 a4 h4 a5 h5 a6 h6 hc z ct cb)]
  unfold kernelRun0_A
  dsimp only
  sl_unfold_words
  rw [View.canon_unit_zero origin]
  simp only [View.readAt_eq_ld, h1.read_unread, h2.read_unread, h3.read_unread, View.ld_unit_zero (S := S1024x32) origin,
    View.ld_unit_zero (S := S32x1024) origin]
  exact codes_stored z ct cb

/-- The first staging buffer at a later point: what six levels take. -/
theorem out_B_3 (hc : ¬cond0_0 i) (z : Vec F S1024x32 .f32) (ct : Vec F S32x1024 .f32) (cb : Vec F S1024x32 .f32) (acc : Vec F S1x1 .f32) :
    out0_B_3 c i a1 h1 a2 h2 a3 h3 a4 h4 a5 h5 a6 h6 hc z ct cb acc = takenAt ct cb z 6 := by
  unfold out0_B_3
  rw [View.read_writes_eq_canon _ _ _ (cover0_B_3 c i a1 h1 a2 h2 a3 h3 a4 h4 a5 h5 a6 h6 hc z ct cb acc)]
  unfold kernelRun0_B
  dsimp only
  sl_unfold_words
  rw [View.canon_unit_zero origin]
  simp only [View.readAt_eq_ld, h1.read_unread, h2.read_unread, h3.read_unread, View.ld_unit_zero (S := S1024x32) origin,
    View.ld_unit_zero (S := S32x1024) origin]
  exact taken_stored z ct cb

/-- The second staging buffer at a later point: the codes of six levels. -/
theorem out_B_4 (hc : ¬cond0_0 i) (z : Vec F S1024x32 .f32) (ct : Vec F S32x1024 .f32) (cb : Vec F S1024x32 .f32) (acc : Vec F S1x1 .f32) :
    out0_B_4 c i a1 h1 a2 h2 a3 h3 a4 h4 a5 h5 a6 h6 hc z ct cb acc = stackAt z ct cb := by
  unfold out0_B_4
  rw [View.read_writes_eq_canon _ _ _ (cover0_B_4 c i a1 h1 a2 h2 a3 h3 a4 h4 a5 h5 a6 h6 hc z ct cb acc)]
  unfold kernelRun0_B
  dsimp only
  sl_unfold_words
  rw [View.canon_unit_zero origin]
  simp only [View.readAt_eq_ld, h1.read_unread, h2.read_unread, h3.read_unread, View.ld_unit_zero (S := S1024x32) origin,
    View.ld_unit_zero (S := S32x1024) origin]
  exact codes_stored z ct cb

/-- The third staging buffer at the first point: the errors of six levels, added to zero. -/
theorem out_A_5 (hc : cond0_0 i) (z : Vec F S1024x32 .f32) (ct : Vec F S32x1024 .f32) (cb : Vec F S1024x32 .f32) :
    out0_A_5 c i a1 h1 a2 h2 a3 h3 a4 h4 a5 h5 a6 h6 hc z ct cb = addf k0_pay36 (broadcast S1x1 (errAt ct cb z 6)) := by
  unfold out0_A_5
  rw [View.read_writes_eq_canon _ _ _ (cover0_A_5 c i a1 h1 a2 h2 a3 h3 a4 h4 a5 h5 a6 h6 hc z ct cb)]
  unfold kernelRun0_A
  dsimp only
  sl_unfold_words
  rw [View.canon_cons_unit_zero (S := S1x1) origin, View.readCov_unit_zero (S := S1x1) _ origin]
  simp only [View.readAt_eq_ld, h1.read_unread, h2.read_unread, h3.read_unread, View.ld_unit_zero (S := S1024x32) origin,
    View.ld_unit_zero (S := S32x1024) origin]
  exact err_stored z ct cb _

/-- The third staging buffer at a later point: the errors of six levels, added to what was there. -/
theorem out_B_5 (hc : ¬cond0_0 i) (z : Vec F S1024x32 .f32) (ct : Vec F S32x1024 .f32) (cb : Vec F S1024x32 .f32) (acc : Vec F S1x1 .f32) :
    out0_B_5 c i a1 h1 a2 h2 a3 h3 a4 h4 a5 h5 a6 h6 hc z ct cb acc = addf acc (broadcast S1x1 (errAt ct cb z 6)) := by
  unfold out0_B_5
  rw [View.read_writes_eq_canon _ _ _ (cover0_B_5 c i a1 h1 a2 h2 a3 h3 a4 h4 a5 h5 a6 h6 hc z ct cb acc)]
  unfold kernelRun0_B
  dsimp only
  sl_unfold_words
  rw [View.canon_unit_zero origin]
  simp only [View.readAt_eq_ld, h1.read_unread, h2.read_unread, h3.read_unread, h6.read_unread, View.ld_unit_zero (S := S1024x32) origin,
    View.ld_unit_zero (S := S32x1024) origin,
    View.ld_unit_zero (S := S1x1) origin]
  exact err_stored z ct cb _

end Point

end Cert.KernelIdeal.Tile
-- ==== Proof.KernelArrays.lean ====
/-
  What the kernel's three result arrays hold after the run: for each of the 65536 rows, what six levels take off it and
  its six codes; and the sum of all the squared errors.
-/
module

public import proofs.«01_k».proof.Proof.TileValue
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem

namespace Cert.KernelIdeal.Arrays

open Cert.KernelIdeal Cert.KernelIdeal.Gen Cert.KernelIdeal.Tile

variable (m : (ℓ : Loc nD τ sig) → Buf (Elt Ideal) ℓ)

/-- The image argument. -/
abbrev img (c : Dev nD) : FVec Ideal S4x32x128x128 .f32 := m ((c : Thread nD τ).loc main_arg0)
/-- The book argument. -/
abbrev cbk (c : Dev nD) : FVec Ideal S1024x32 .f32 := m ((c : Thread nD τ).loc main_arg1)
/-- The image's pixels as rows. -/
abbrev pix (c : Dev nD) : FVec Ideal S65536x32 .f32 :=
  shapeCast S65536x32 (transpose S4x128x128x32 [0, 2, 3, 1] (img m c) transposes_S4x32x128x128_S4x128x128x32_0_2_3_1)
    shapeCasts_S4x128x128x32_S65536x32
/-- Row `n` of the pixels. -/
def pixRow (c : Dev nD) (n : Fin 65536) : Rvq.Row := fun j => pix m c (ix2 n j)

/-- The rows as the region finds them. -/
theorem V_rows (c : Dev nD) : V m c main_v1 = pix m c := by
  show StableHlo.after hostOps0 _ (Proc.devRef .tc main_v1) = _
  after_results
  rfl

/-- The transposed book as the region finds it. -/
theorem V_ct (c : Dev nD) : V m c main_v2 = transpose S32x1024 [1, 0] (cbk m c) transposes_S1024x32_S32x1024_1_0 := by
  show StableHlo.after hostOps0 _ (Proc.devRef .tc main_v2) = _
  after_results

/-- The block of rows at a point. -/
abbrev zBlk (c : Dev nD) (t : Fin cfg0.N) : FVec Ideal S1024x32 .f32 := iblk m c 0 t
/-- The block of the transposed book at a point. -/
abbrev ctBlk (c : Dev nD) (t : Fin cfg0.N) : FVec Ideal S32x1024 .f32 := iblk m c 1 t
/-- The block of the book at a point. -/
abbrev cbBlk (c : Dev nD) (t : Fin cfg0.N) : FVec Ideal S1024x32 .f32 := iblk m c 2 t

/-- A row of the block at a point is a row of the array. -/
theorem row_iblk (c : Dev nD) (t : Fin cfg0.N) (i : Fin 1024) (n : Fin 65536) (hn : n.val = t.val * 1024 + i.val) :
    row (zBlk m c t) i = pixRow m c n := by
  have e : ∀ t : Fin cfg0.N, win0_0.index t = ![t.val, 0] := by decide +kernel
  funext j
  unfold row pixRow zBlk
  rw [← V_rows]
  blk_simp [iblk, e]
  refine congrArg (V m c main_v1) (funext fun a => Fin.ext ?_)
  fin_cases a <;> blk_simp [e] <;> simp [ix2, hn]

/-- The block of the book at a point: the book. -/
theorem iblk_cb (c : Dev nD) (t : Fin cfg0.N) : cbBlk m c t = cbk m c := by
  have e : ∀ t : Fin cfg0.N, win0_2.index t = ![0, 0] := by decide +kernel
  funext j
  show _ = m ((c : Thread nD τ).loc main_arg1) j
  rw [← V_main_arg1 m c]
  unfold cbBlk
  blk_simp [iblk, e]
  refine congrArg (V m c main_arg1) (funext fun a => Fin.ext ?_)
  fin_cases a <;> blk_simp [e] <;> simp

/-- The block of the transposed book at a point: the book transposed. -/
theorem iblk_ct (c : Dev nD) (t : Fin cfg0.N) (j : Fin 32) (k : Fin 1024) :
    ctBlk m c t (ix2 j k) = cbk m c (ix2 k j) := by
  have e : ∀ t : Fin cfg0.N, win0_1.index t = ![0, 0] := by decide +kernel
  have h : ctBlk m c t (ix2 j k) = V m c main_v2 (ix2 j k) := by
    unfold ctBlk
    blk_simp [iblk, e]
    refine congrArg (V m c main_v2) (funext fun a => Fin.ext ?_)
    fin_cases a <;> blk_simp [e] <;> simp [ix2]
  rw [h, V_ct]
  pointwise []

/-- The six levels of the point's block, as the point leaves them in the first staging buffer. -/
theorem outs_3 (c : Dev nD) (t : Fin cfg0.N) :
    (outsAt0 m c t.val t.isLt).1 = takenAt (ctBlk m c t) (cbBlk m c t) (zBlk m c t) 6 := by
  by_cases h : t.val % 64 = 0
  · rw [outsAt0_A m c t h]; dsimp only; exact out_A_3 (F := Ideal) ..
  · rw [outsAt0_B m c t h]; dsimp only; exact out_B_3 (F := Ideal) ..

/-- The codes of the point's block, as the point leaves them in the second staging buffer. -/
theorem outs_4 (c : Dev nD) (t : Fin cfg0.N) :
    (outsAt0 m c t.val t.isLt).2.1 = stackAt (zBlk m c t) (ctBlk m c t) (cbBlk m c t) := by
  by_cases h : t.val % 64 = 0
  · rw [outsAt0_A m c t h]; dsimp only; exact out_A_4 (F := Ideal) ..
  · rw [outsAt0_B m c t h]; dsimp only; exact out_B_4 (F := Ideal) ..

/-- The squared errors of the point's block. -/
def errOf (c : Dev nD) (t : Fin cfg0.N) : EReal := errAt (ctBlk m c t) (cbBlk m c t) (zBlk m c t) 6

/-- The third staging buffer after the points up to `n`: the squared errors of their blocks. -/
theorem outs_5 (c : Dev nD) : ∀ (n : ℕ) (h : n < cfg0.N) (i : S1x1.Idx),
    (outsAt0 m c n h).2.2 i = ∑ t : Fin (n + 1), errOf m c ⟨t.val, lt_of_lt_of_le t.isLt h⟩
  | 0, h, i => by
    have e := congrArg (fun o => o.2.2) (outsAt0_A m c ⟨0, h⟩ rfl)
    dsimp only at e
    refine ((congrFun e i).trans (congrFun (out_A_5 (F := Ideal) ..) i)).trans ?_
    rw [Fin.sum_univ_one]
    show Ideal.ofBits .f32 0x00000000#32 + errOf m c ⟨0, h⟩ = _
    rw [Ideal.ofBits_zero_f32, zero_add]
    rfl
  | n + 1, h, i => by
    have hN : cfg0.N = 64 := N_0
    have hB : ¬(⟨n + 1, h⟩ : Fin cfg0.N).val % 64 = 0 := by dsimp only; omega
    have e := congrArg (fun o => o.2.2) (outsAt0_B m c ⟨n + 1, h⟩ hB)
    dsimp only at e
    refine ((congrFun e i).trans (congrFun (out_B_5 (F := Ideal) ..) i)).trans ?_
    rw [Fin.sum_univ_castSucc]
    exact congrArg (· + errOf m c ⟨n + 1, h⟩) (outs_5 c n (Nat.lt_of_succ_lt h) i)

/-- Row `l` of the stack of codes is the codes of level `l`. -/
theorem stackAt_apply (z : FVec Ideal S1024x32 .f32) (ct : FVec Ideal S32x1024 .f32) (cb : FVec Ideal S1024x32 .f32)
    (l : Fin 6) (i : Fin 1024) : stackAt z ct cb (ix2 l i) = codesAt ct cb z l.val (ix1 i) := by
  obtain ⟨l, hl⟩ := l
  unfold stackAt
  generalize codesAt ct cb z = f
  interval_cases l <;> pointwise []

/-- The row of the array that row `i` of the point's block is. -/
def rowOf (t : Fin cfg0.N) (i : Fin 1024) : Fin 65536 :=
  ⟨t.val * 1024 + i.val, by have hN : cfg0.N = 64 := N_0; have := t.isLt; have := i.isLt; omega⟩

/-- What six levels take from the point's block is what they take from its rows. -/
theorem taken_block (c : Dev nD) (t : Fin cfg0.N) (i : Fin 1024) (j : Fin 32) :
    takenAt (ctBlk m c t) (cbBlk m c t) (zBlk m c t) 6 (ix2 i j)
      = Rvq.taken (book (cbk m c)) (pixRow m c (rowOf t i)) 6 j := by
  have h := congrFun (row_takenAt (ctBlk m c t) (cbBlk m c t) (zBlk m c t)
    (fun j k => by rw [iblk_ct, iblk_cb]) i 6) j
  rw [row_iblk m c t i (rowOf t i) rfl, iblk_cb] at h
  rw [iblk_cb]
  exact h

/-- The stack of the codes of the point's block holds the codes of its rows. -/
theorem code_block (c : Dev nD) (t : Fin cfg0.N) (l : Fin 6) (i : Fin 1024) :
    stackAt (zBlk m c t) (ctBlk m c t) (cbBlk m c t) (ix2 l i)
      = BitVec.ofNat 32 (Rvq.code (book (cbk m c)) (pixRow m c (rowOf t i)) l.val).val := by
  rw [stackAt_apply, codesAt_apply (ctBlk m c t) (cbBlk m c t) (zBlk m c t) (fun j k => by rw [iblk_ct, iblk_cb]),
    row_iblk m c t i (rowOf t i) rfl, iblk_cb]

/-- The squared errors of the point's block are those of its rows. -/
theorem errOf_eq (c : Dev nD) (t : Fin cfg0.N) : errOf m c t
    = ∑ v ∈ Finset.range 6, ∑ i : Fin 1024, Rvq.err (book (cbk m c)) (pixRow m c (rowOf t i)) v := by
  unfold errOf
  rw [errAt_eq (ctBlk m c t) (cbBlk m c t) (zBlk m c t) (fun j k => by rw [iblk_ct, iblk_cb])]
  simp only [row_iblk m c t _ (rowOf t _) rfl, iblk_cb]

/-- The first result array: what six levels take from each row. -/
def takenArr (c : Dev nD) : FVec Ideal S65536x32 .f32 := fun i =>
  Rvq.taken (book (cbk m c)) (pixRow m c (i 0)) 6 (i 1)
/-- The second result array: each row's codes. -/
def codeArr (c : Dev nD) : IVec S6x65536 32 := fun i =>
  BitVec.ofNat 32 (Rvq.code (book (cbk m c)) (pixRow m c (i 1)) (i 0).val).val
/-- The third result array: the squared errors of all the points. -/
def errArr (c : Dev nD) : FVec Ideal S1x1 .f32 := fun _ => ∑ t : Fin cfg0.N, errOf m c t

/-- What the first result array ends holding. -/
theorem final_3 (c : Dev nD) : (dats m 0 c).arrAt 3 (cfgs 0).N = takenArr m c := by
  refine (dats m 0 c).arrAt_eq_of_covers 3 _ (by decide +kernel) fun t hf y => ?_
  blk_simp
  rw [after0_3, outs_3]
  have e : ∀ t : Fin cfg0.N, win0_3.index t = ![t.val, 0] := by decide +kernel
  have h0 : (win0_3.blk t).view.emb y 0 = rowOf t (y 0) := Fin.ext (by blk_simp [e]; simp [rowOf])
  have h1 : (win0_3.blk t).view.emb y 1 = y 1 := Fin.ext (by blk_simp [e])
  have hy : y = ix2 (y 0) (y 1) := eq_ix2 y
  refine Eq.trans ?_ ((taken_block m c t (y 0) (y 1)).trans ?_)
  · exact congrArg (takenAt (ctBlk m c t) (cbBlk m c t) (zBlk m c t) 6) hy
  · unfold takenArr
    rw [h0, h1]

/-- What the second result array ends holding. -/
theorem final_4 (c : Dev nD) : (dats m 0 c).arrAt 4 (cfgs 0).N = codeArr m c := by
  refine (dats m 0 c).arrAt_eq_of_covers 4 _ (by decide +kernel) fun t hf y => ?_
  blk_simp
  rw [after0_4, outs_4]
  have e : ∀ t : Fin cfg0.N, win0_4.index t = ![0, t.val] := by decide +kernel
  have h0 : (win0_4.blk t).view.emb y 0 = y 0 := Fin.ext (by blk_simp [e])
  have h1 : (win0_4.blk t).view.emb y 1 = rowOf t (y 1) := Fin.ext (by blk_simp [e]; simp [rowOf])
  have hy : y = ix2 (y 0) (y 1) := eq_ix2 y
  refine Eq.trans ?_ ((code_block m c t (y 0) (y 1)).trans ?_)
  · exact congrArg (stackAt (zBlk m c t) (ctBlk m c t) (cbBlk m c t)) hy
  · unfold codeArr
    rw [h0, h1]

/-- The last point of the grid. -/
def tLast : Fin cfg0.N := ⟨63, by have hN : cfg0.N = 64 := N_0; omega⟩

/-- What the third result array ends holding. -/
theorem final_5 (c : Dev nD) : (dats m 0 c).arrAt 5 (cfgs 0).N = errArr m c := by
  refine (dats m 0 c).arrAt_eq_of_after_last 5 tLast (by decide +kernel) _ fun j => ?_
  blk_simp
  rw [after0_5]
  refine (outs_5 m c 63 tLast.isLt j).trans ?_
  unfold errArr
  exact (Fin.sum_congr' (fun t : Fin cfg0.N => errOf m c t) N_0.symm)

end Cert.KernelIdeal.Arrays
-- ==== Proof.KernelRun.lean ====
/-
  The kernel's whole run over the extended reals: what its three results hold when it ends.
-/
module

public import proofs.«01_k».proof.Proof.KernelArrays

@[expose] public section

set_option maxRecDepth 16384

noncomputable section

open Idealize.ShloMosaic Idealize.ShloMosaic.TcCoe Idealize.SL.Sem
open Idealize.ShloMosaic.StableHlo

namespace Cert.KernelIdeal.Arrays

open Cert.KernelIdeal Cert.KernelIdeal.Gen Cert.KernelIdeal.Tile

variable (m : (ℓ : Loc nD τ sig) → Buf (Elt Ideal) ℓ) (ρ : Dev nD → PrngReg)

/-- The image result: the rows taken, folded back and the channels moved to their axis. -/
def imageOut (c : Dev nD) : FVec Ideal S4x32x128x128 .f32 :=
  transpose S4x32x128x128 [0, 3, 1, 2] (shapeCast S4x128x128x32 (takenArr m c) shapeCasts_S65536x32_S4x128x128x32)
    transposes_S4x128x128x32_S4x32x128x128_0_3_1_2

/-- The loss result: the squared errors by the printed factor. -/
def lossOut (c : Dev nD) : FVec Ideal S_ .f32 :=
  mulf (shapeCast S_ (errArr m c) shapeCasts_S1x1_S_) (constant S_ .f32 0x35200000#32)

/-- The valuation the host lines after the region run from holds the first result array. -/
theorem tail_rows (c : Dev nD) : Pipeline.withArrays spec0 c (V0 m c) (fun w => (dats m 0 c).arrAt w (cfgs 0).N)
    (Proc.devRef .tc main_v3_0) = takenArr m c :=
  (Pipeline.withArrays_arr spec0 (by decide) c (V0 m c) (fun w => (dats m 0 c).arrAt w (cfgs 0).N) 3).trans (final_3 m c)

/-- The valuation the host lines after the region run from holds the third result array. -/
theorem tail_err (c : Dev nD) : Pipeline.withArrays spec0 c (V0 m c) (fun w => (dats m 0 c).arrAt w (cfgs 0).N)
    (Proc.devRef .tc main_v3_2) = errArr m c :=
  (Pipeline.withArrays_arr spec0 (by decide) c (V0 m c) (fun w => (dats m 0 c).arrAt w (cfgs 0).N) 5).trans (final_5 m c)

/-- The image after the host lines, from what the first result array holds before them. -/
theorem after_image (U : Valuation τ sig (Elt Ideal)) : StableHlo.after hostOps1 U (Proc.devRef .tc main_v5)
    = transpose S4x32x128x128 [0, 3, 1, 2] (shapeCast S4x128x128x32 (U (Proc.devRef .tc main_v3_0))
        shapeCasts_S65536x32_S4x128x128x32) transposes_S4x128x128x32_S4x32x128x128_0_3_1_2 := by
  after_results
  rfl

/-- The loss after the host lines, from what the third result array holds before them. -/
theorem after_loss (U : Valuation τ sig (Elt Ideal)) : StableHlo.after hostOps1 U (Proc.devRef .tc main_v7)
    = mulf (shapeCast S_ (U (Proc.devRef .tc main_v3_2)) shapeCasts_S1x1_S_ : FVec Ideal S_ .f32)
        (constant S_ .f32 0x35200000#32) := by
  after_results
  rfl

/-- The host lines leave the image. -/
theorem tail_image (c : Dev nD) : Pipeline.afterTail₀ cfgs (dats m) 0 (V0 m) [hostOps1] c main_v5 = imageOut m c :=
  (after_image _).trans (congrArg (fun a : FVec Ideal S65536x32 .f32 => transpose S4x32x128x128 [0, 3, 1, 2]
    (shapeCast S4x128x128x32 a shapeCasts_S65536x32_S4x128x128x32)
    transposes_S4x128x128x32_S4x32x128x128_0_3_1_2) (tail_rows m c))

/-- The host lines leave the loss. -/
theorem tail_loss (c : Dev nD) : Pipeline.afterTail₀ cfgs (dats m) 0 (V0 m) [hostOps1] c main_v7 = lossOut m c :=
  (after_loss _).trans (congrArg (fun a : FVec Ideal S1x1 .f32 => mulf (shapeCast S_ a shapeCasts_S1x1_S_)
    (constant S_ .f32 0x35200000#32)) (tail_err m c))

/-- The kernel's run: it ends with the image, the loss and the codes in its results and the arguments unchanged. -/
theorem run : θ_run defs (onTc (τ := τ) (main (F := Ideal))) ⟨m, fun _ => 0, ρ⟩ (fun r => ∀ c : Dev nD,
      r.2.mem ((c.tc : Thread nD τ).loc main_v5) = imageOut m c
      ∧ r.2.mem ((c.tc : Thread nD τ).loc main_v7) = lossOut m c
      ∧ r.2.mem ((c.tc : Thread nD τ).loc main_v3_1) = codeArr m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v5 (Pipeline.mem_restRefs_of main_v5 (by decide) (by decide))).trans (tail_image m c),
     ((h c).2 main_v7 (Pipeline.mem_restRefs_of main_v7 (by decide) (by decide))).trans (tail_loss m c),
     ((h c).1 4).trans (final_4 m c),
     ((h c).2 main_arg0 (Pipeline.mem_restRefs_of main_arg0 (by decide) (by decide))).trans (W_main_arg0 m (dats m) c),
     ((h c).1 2).trans (((dats m 0 c).arrAt_in 2 rfl _).trans ((A_eq m c 2).trans (V_main_arg1 m c)))⟩) (run_main m ρ)

end Cert.KernelIdeal.Arrays
-- ==== Proof.RefLine.lean ====
/-
  Reading a straight line of host operations over typed references, each reference known by its number: an operation's
  result holds its function of what its operands held, and every buffer of another number is as it was.
-/
module

public import Idealize.ShloMosaic.Lib.StableHlo.Run

@[expose] public section

noncomputable section

open Idealize.ShloMosaic Idealize.ShloMosaic.TcCoe Idealize.ShloMosaic.StableHlo

namespace Rvq.Line

variable {τ : Topo} {sig : RefSig} {Val : EltTy → Type}
variable {T Ta Tb Tc Td Ty : BufTy}

/-- The number of a reference's buffer in its space. -/
def num (r : Ref sig .tc) : ℕ := r.idx.val

/-- References of different numbers differ. -/
theorem ne_of_num {r s : Ref sig .tc} (h : num r ≠ num s) : r ≠ s := fun e => h (congrArg num e)

/-- What a typed reference's buffer holds, at the value's type. -/
def rd (x : TRef sig T) (V : Valuation τ sig Val) : T.Contents Val := x.ofBuf (V (Proc.devRef .tc x.ref))

/-- A buffer that an operation does not write is as it was. -/
theorem rd_of_writes (z : TRef sig T) (op : HloOp τ sig Val) (V : Valuation τ sig Val) (y : Ref sig .tc)
    (hw : op.writes = {Proc.devRef (τ := τ) .tc y}) (h : num z.ref ≠ num y) : rd z (op.result V) = rd z V :=
  congrArg z.ofBuf (result_of_writes_ne op V y z.ref hw (ne_of_num h))

section Same

variable (a : TRef sig Ta) (b : TRef sig Tb) (c : TRef sig Tc) (d : TRef sig Td) (y : TRef sig Ty) (V : Valuation τ sig Val)

/-- A constant's result. -/
theorem rd_nullary (v : Ty.Contents Val) : rd y ((TRef.nullary (τ := τ) y v).result V) = v := by
  unfold rd; rw [nullary_result, TRef.ofBuf_toBuf]

/-- The result of an operation of one operand. -/
theorem rd_unary (f : Ta.Contents Val → Ty.Contents Val) :
    rd y ((TRef.unary (τ := τ) a y f).result V) = f (rd a V) := by
  unfold rd; rw [unary_result, TRef.ofBuf_toBuf]

/-- The result of an operation of two operands. -/
theorem rd_binary (f : Ta.Contents Val → Tb.Contents Val → Ty.Contents Val) :
    rd y ((TRef.binary (τ := τ) a b y f).result V) = f (rd a V) (rd b V) := by
  unfold rd; rw [binary_result, TRef.ofBuf_toBuf]

/-- The result of an operation of three operands. -/
theorem rd_ternary (f : Tc.Contents Val → Ta.Contents Val → Tb.Contents Val → Ty.Contents Val) :
    rd y ((TRef.ternary (τ := τ) c a b y f).result V) = f (rd c V) (rd a V) (rd b V) := by
  unfold rd; rw [ternary_result, TRef.ofBuf_toBuf]

/-- The result of an operation of four operands. -/
theorem rd_quaternary (f : Ta.Contents Val → Tb.Contents Val → Tc.Contents Val → Td.Contents Val → Ty.Contents Val) :
    rd y ((TRef.quaternary (τ := τ) a b c d y f).result V) = f (rd a V) (rd b V) (rd c V) (rd d V) := by
  unfold rd; rw [quaternary_result, TRef.ofBuf_toBuf]

end Same

section Other

variable (a : TRef sig Ta) (b : TRef sig Tb) (c : TRef sig Tc) (d : TRef sig Td) (y : TRef sig Ty) (V : Valuation τ sig Val)
  (z : TRef sig T) (h : num z.ref ≠ num y.ref)

include h

/-- Another buffer after a constant. -/
theorem rd_nullary_ne (v : Ty.Contents Val) : rd z ((TRef.nullary (τ := τ) y v).result V) = rd z V :=
  rd_of_writes z _ V y.ref rfl h

/-- Another buffer after an operation of one operand. -/
theorem rd_unary_ne (f : Ta.Contents Val → Ty.Contents Val) : rd z ((TRef.unary (τ := τ) a y f).result V) = rd z V :=
  rd_of_writes z _ V y.ref rfl h

/-- Another buffer after an operation of two operands. -/
theorem rd_binary_ne (f : Ta.Contents Val → Tb.Contents Val → Ty.Contents Val) :
    rd z ((TRef.binary (τ := τ) a b y f).result V) = rd z V :=
  rd_of_writes z _ V y.ref rfl h

/-- Another buffer after an operation of three operands. -/
theorem rd_ternary_ne (f : Tc.Contents Val → Ta.Contents Val → Tb.Contents Val → Ty.Contents Val) :
    rd z ((TRef.ternary (τ := τ) c a b y f).result V) = rd z V :=
  rd_of_writes z _ V y.ref rfl h

/-- Another buffer after an operation of four operands. -/
theorem rd_quaternary_ne (f : Ta.Contents Val → Tb.Contents Val → Tc.Contents Val → Td.Contents Val → Ty.Contents Val) :
    rd z ((TRef.quaternary (τ := τ) a b c d y f).result V) = rd z V :=
  rd_of_writes z _ V y.ref rfl h

end Other

end Rvq.Line
-- ==== Proof.RefLevel.lean ====
/-
  One level of the reference as a straight line of host operations over references it is given, and what the line leaves:
  the scores, the codes, the rows taken, the loss and what is left, each the named function of what was there before.
-/
module

public import proofs.«01_k».proof.Proof.RefLine
public import Idealize.ShloMosaic.Lib.Pipeline.Frame
public import proofs.«01_k».proof.Proof.Gen.ReferenceIdeal

@[expose] public section

set_option maxRecDepth 8192

noncomputable section

open Idealize.ShloMosaic Idealize.ShloMosaic.TcCoe Idealize.ShloMosaic.StableHlo

namespace Cert.ReferenceIdeal.Level

open Cert.ReferenceIdeal Cert.ReferenceIdeal.Facts₀ Cert.ReferenceIdeal.Facts Rvq.Line

variable {F : FTy → Type} [FloatOps F]

/-! ### The functions -/

/-- The squared norms of the book's rows. -/
def normsOf (cb : FVec F S1024x32 .f32) : FVec F S1024 .f32 :=
  Host.reduceAdd (mulf cb cb) (constant S_ .f32 0x00000000#32) reducesTo_S1024x32_S1024_d1 h_S_

/-- The scores of every row against every row of the book. -/
def scoresOf (r : FVec F S65536x32 .f32) (n : FVec F S1024 .f32) (cb : FVec F S1024x32 .f32) : FVec F S65536x1024 .f32 :=
  subf
    (addf
      (broadcastInDim S65536x1024 ![0, 1] bcast_S65536x1_S65536x1024_0_1
        (broadcastInDim S65536x1 ![0] bcast_S65536_S65536x1_0
          (Host.reduceAdd (mulf r r) (constant S_ .f32 0x00000000#32) reducesTo_S65536x32_S65536_d1 h_S_)))
      (broadcastInDim S65536x1024 ![0, 1] bcast_S1x1024_S65536x1024_0_1
        (broadcastInDim S1x1024 ![1] bcast_S1024_S1x1024_1 n)))
    (Host.dotGeneral dot_S65536x32_S32x1024_S65536x1024_1_0_0_1_n_n none
      (mulf (broadcastInDim S65536x32 ![] bcast_S_S65536x32 (constant S_ .f32 0x40000000#32)) r)
      (transpose S32x1024 [1, 0] cb transposes_S1024x32_S32x1024_1_0))

/-- The position of each row's least score, whatever the number of rows, the reduction starting from `x` and `c`. -/
def firstOf {N : ℕ} (d : FVec F ⟨2, ![N, 1024]⟩ .f32) (x : FVec F S_ .f32) (c : IVec S_ 32)
    (h : (⟨2, ![N, 1024]⟩ : Shape).ReducesTo [1] ⟨1, ![N]⟩) (hu : 0 < S_.numel) : IVec ⟨1, ![N]⟩ 32 := fun j =>
  (Host.argReduce reducer_argmin_f32_i32 d (iotaInDim ⟨2, ![N, 1024]⟩ 32 1) x c h hu j).2

/-- The position of each row's least score. -/
def bestOf (d : FVec F S65536x1024 .f32) : IVec S65536 32 :=
  firstOf d (constant S_ .f32 0x7F800000#32) (constantI S_ 32 0#32) reducesTo_S65536x1024_S65536_d1 h_S_

/-- The positions as the look-up takes them: a negative one counted from the end. -/
def startOf (idx : IVec S65536 32) : IVec S65536x1 32 :=
  broadcastInDim S65536x1 ![0] bcast_S65536_S65536x1_0
    (select (cmpi .slt idx (broadcastInDim S65536 ![] bcast_S_S65536 (constantI S_ 32 0#32)))
      (addi idx (broadcastInDim S65536 ![] bcast_S_S65536 (constantI S_ 32 1024#32))) idx)

/-- Whether each position lies in the book. -/
def insideOf (s : IVec S65536x1 32) : IVec S65536 1 :=
  Host.reduce IntOp.andi
    (andi (cmpi .sge s (broadcastInDim S65536x1 ![] bcast_S_S65536x1 (constantI S_ 32 0#32)))
      (cmpi .sle s (broadcastInDim S65536x1 ![0, 1] bcast_S1x1_S65536x1_0_1
        (broadcastInDim S1x1 ![1] bcast_S1_S1x1_1 (constantI S1 32 1023#32)))))
    (constantI S_ 1 1#1) reducesTo_S65536x1_S65536_d1 h_S_

/-- The rows of the book at the positions. -/
def rowsOf (cb : FVec F S1024x32 .f32) (idx : IVec S65536 32) : FVec F S65536x32 .f32 :=
  select (broadcastInDim S65536x32 ![0] bcast_S65536_S65536x32_0 (insideOf (startOf idx)))
    (Host.gather gather_S1024x32_S65536x1_S65536x32_1_0_n_n_0_1_132 cb (startOf idx))
    (broadcastInDim S65536x32 ![] bcast_S_S65536x32 (constant S_ .f32 0x7FC00000#32))

/-- The mean squared difference of the rows taken and what they were taken for. -/
def meanOf (e r : FVec F S65536x32 .f32) : FVec F S_ .f32 :=
  Host.divf (Host.reduceAdd (mulf (subf e r) (subf e r)) (constant S_ .f32 0x00000000#32) reducesTo_S65536x32_S_d0_1 h_S_)
    (constant S_ .f32 0x4A000000#32)

/-- The loss with a level's mean added to it: once, and once again by a quarter. -/
def lossOf (l m : FVec F S_ .f32) : FVec F S_ .f32 :=
  addf (addf l m) (mulf (constant S_ .f32 0x3E800000#32) m)

/-! ### The references of a level -/

/-- The references a level names: what it reads (what is left `r`, what is taken `q`, the loss `l`), then one per value. -/
structure Refs where
  r : TRef sig ⟨S65536x32, .f32⟩
  q : TRef sig ⟨S65536x32, .f32⟩
  l : TRef sig ⟨S_, .f32⟩
  sq : TRef sig ⟨S65536x32, .f32⟩
  z0 : TRef sig ⟨S_, .f32⟩
  rn : TRef sig ⟨S65536, .f32⟩
  rn1 : TRef sig ⟨S65536x1, .f32⟩
  cn1 : TRef sig ⟨S1x1024, .f32⟩
  rnb : TRef sig ⟨S65536x1024, .f32⟩
  cnb : TRef sig ⟨S65536x1024, .f32⟩
  nn : TRef sig ⟨S65536x1024, .f32⟩
  two : TRef sig ⟨S_, .f32⟩
  twob : TRef sig ⟨S65536x32, .f32⟩
  dbl : TRef sig ⟨S65536x32, .f32⟩
  ct : TRef sig ⟨S32x1024, .f32⟩
  dot : TRef sig ⟨S65536x1024, .f32⟩
  d : TRef sig ⟨S65536x1024, .f32⟩
  am : fn_argmin.Bufs
  tk : fn_take.Bufs
  q' : TRef sig ⟨S65536x32, .f32⟩
  e1 : TRef sig ⟨S65536x32, .f32⟩
  s1 : TRef sig ⟨S65536x32, .f32⟩
  z1 : TRef sig ⟨S_, .f32⟩
  t1 : TRef sig ⟨S_, .f32⟩
  n1 : TRef sig ⟨S_, .f32⟩
  m1 : TRef sig ⟨S_, .f32⟩
  l1 : TRef sig ⟨S_, .f32⟩
  e2 : TRef sig ⟨S65536x32, .f32⟩
  s2 : TRef sig ⟨S65536x32, .f32⟩
  z2 : TRef sig ⟨S_, .f32⟩
  t2 : TRef sig ⟨S_, .f32⟩
  n2 : TRef sig ⟨S_, .f32⟩
  m2 : TRef sig ⟨S_, .f32⟩
  w : TRef sig ⟨S_, .f32⟩
  wm : TRef sig ⟨S_, .f32⟩
  l' : TRef sig ⟨S_, .f32⟩
  r' : TRef sig ⟨S65536x32, .f32⟩

/-- The book's reference. -/
abbrev bookRef : TRef sig ⟨S1024x32, .f32⟩ := .of main_arg1
/-- The reference of the squared norms of the book's rows. -/
abbrev normsRef : TRef sig ⟨S1024, .f32⟩ := .of main_v4

/-! ### The lines -/

/-- The scores' operations. -/
def scoreOps (φ : Refs) : List (HloOp τ sig (Elt F)) :=
  [ TRef.binary φ.r φ.r φ.sq mulf,
    TRef.nullary φ.z0 (constant S_ .f32 0x00000000#32),
    TRef.binary φ.sq φ.z0 φ.rn (fun x v => Host.reduceAdd x v reducesTo_S65536x32_S65536_d1 h_S_),
    TRef.unary φ.rn φ.rn1 (broadcastInDim S65536x1 ![0] bcast_S65536_S65536x1_0),
    TRef.unary normsRef φ.cn1 (broadcastInDim S1x1024 ![1] bcast_S1024_S1x1024_1),
    TRef.unary φ.rn1 φ.rnb (broadcastInDim S65536x1024 ![0, 1] bcast_S65536x1_S65536x1024_0_1),
    TRef.unary φ.cn1 φ.cnb (broadcastInDim S65536x1024 ![0, 1] bcast_S1x1024_S65536x1024_0_1),
    TRef.binary φ.rnb φ.cnb φ.nn addf,
    TRef.nullary φ.two (constant S_ .f32 0x40000000#32),
    TRef.unary φ.two φ.twob (broadcastInDim S65536x32 ![] bcast_S_S65536x32),
    TRef.binary φ.twob φ.r φ.dbl mulf,
    TRef.unary bookRef φ.ct (transpose S32x1024 [1, 0] · transposes_S1024x32_S32x1024_1_0),
    TRef.binary φ.dbl φ.ct φ.dot (fun l r => Host.dotGeneral dot_S65536x32_S32x1024_S65536x1024_1_0_0_1_n_n none l r),
    TRef.binary φ.nn φ.dot φ.d subf ]

/-- The operations of the position of the least score. -/
def bestOps (d : TRef sig ⟨S65536x1024, .f32⟩) (φ : fn_argmin.Bufs) : List (HloOp τ sig (Elt F)) :=
  [ TRef.nullary φ.v0 (iotaInDim S65536x1024 32 1),
    TRef.nullary φ.cst (constant S_ .f32 0x7F800000#32),
    TRef.nullary φ.c (constantI S_ 32 0#32),
    TRef.quaternary d φ.v0 φ.cst φ.c φ.v1_0
      (fun x y u v j => (Host.argReduce reducer_argmin_f32_i32 x y u v reducesTo_S65536x1024_S65536_d1 h_S_ j).1),
    TRef.quaternary d φ.v0 φ.cst φ.c φ.v1_1
      (fun x y u v j => (Host.argReduce reducer_argmin_f32_i32 x y u v reducesTo_S65536x1024_S65536_d1 h_S_ j).2) ]

/-- The look-up's operations. -/
def rowOps (cb : TRef sig ⟨S1024x32, .f32⟩) (idx : TRef sig ⟨S65536, .i32⟩) (φ : fn_take.Bufs) :
    List (HloOp τ sig (Elt F)) :=
  [ TRef.nullary φ.c (constantI S_ 32 0#32),
    TRef.unary φ.c φ.v0 (broadcastInDim S65536 ![] bcast_S_S65536),
    TRef.binary idx φ.v0 φ.v1 (cmpi .slt),
    TRef.nullary φ.c_0 (constantI S_ 32 1024#32),
    TRef.unary φ.c_0 φ.v2 (broadcastInDim S65536 ![] bcast_S_S65536),
    TRef.binary idx φ.v2 φ.v3 addi,
    TRef.ternary φ.v1 φ.v3 idx φ.call0.v0 select,
    TRef.unary φ.call0.v0 φ.v5 (broadcastInDim S65536x1 ![0] bcast_S65536_S65536x1_0),
    TRef.nullary φ.c_1 (constantI S1 32 1023#32),
    TRef.nullary φ.c_2 (constantI S_ 32 0#32),
    TRef.unary φ.c_2 φ.v6 (broadcastInDim S65536x1 ![] bcast_S_S65536x1),
    TRef.binary φ.v5 φ.v6 φ.v7 (cmpi .sge),
    TRef.unary φ.c_1 φ.v8 (broadcastInDim S1x1 ![1] bcast_S1_S1x1_1),
    TRef.unary φ.v8 φ.v9 (broadcastInDim S65536x1 ![0, 1] bcast_S1x1_S65536x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S65536x1_S65536_d1 h_S_),
    TRef.binary cb φ.v5 φ.v13 (fun x i => Host.gather gather_S1024x32_S65536x1_S65536x32_1_0_n_n_0_1_132 x i),
    TRef.unary φ.v12 φ.v14 (broadcastInDim S65536x32 ![0] bcast_S65536_S65536x32_0),
    TRef.nullary φ.cst (constant S_ .f32 0x7FC00000#32),
    TRef.unary φ.cst φ.v15 (broadcastInDim S65536x32 ![] bcast_S_S65536x32),
    TRef.ternary φ.v14 φ.v13 φ.v15 φ.v16 select ]

/-- The operations of what is taken and of the level's first mean. -/
def meanOps (φ : Refs) : List (HloOp τ sig (Elt F)) :=
  [ TRef.binary φ.q φ.tk.v16 φ.q' addf,
    TRef.binary φ.tk.v16 φ.r φ.e1 subf,
    TRef.binary φ.e1 φ.e1 φ.s1 mulf,
    TRef.nullary φ.z1 (constant S_ .f32 0x00000000#32),
    TRef.binary φ.s1 φ.z1 φ.t1 (fun x v => Host.reduceAdd x v reducesTo_S65536x32_S_d0_1 h_S_),
    TRef.nullary φ.n1 (constant S_ .f32 0x4A000000#32),
    TRef.binary φ.t1 φ.n1 φ.m1 Host.divf ]

/-- The operations of the loss and of what is left. -/
def lossOps (φ : Refs) : List (HloOp τ sig (Elt F)) :=
  [ TRef.binary φ.l φ.m1 φ.l1 addf,
    TRef.binary φ.tk.v16 φ.r φ.e2 subf,
    TRef.binary φ.e2 φ.e2 φ.s2 mulf,
    TRef.nullary φ.z2 (constant S_ .f32 0x00000000#32),
    TRef.binary φ.s2 φ.z2 φ.t2 (fun x v => Host.reduceAdd x v reducesTo_S65536x32_S_d0_1 h_S_),
    TRef.nullary φ.n2 (constant S_ .f32 0x4A000000#32),
    TRef.binary φ.t2 φ.n2 φ.m2 Host.divf,
    TRef.nullary φ.w (constant S_ .f32 0x3E800000#32),
    TRef.binary φ.w φ.m2 φ.wm mulf,
    TRef.binary φ.l1 φ.wm φ.l' addf,
    TRef.binary φ.r φ.tk.v16 φ.r' subf ]

/-! ### The order of the references -/

/-- The numbers of the references the scores' operations name, in order. -/
def Refs.scoreNums (φ : Refs) : List ℕ :=
  [num φ.sq.ref, num φ.z0.ref, num φ.rn.ref, num φ.rn1.ref, num φ.cn1.ref, num φ.rnb.ref, num φ.cnb.ref, num φ.nn.ref,
    num φ.two.ref, num φ.twob.ref, num φ.dbl.ref, num φ.ct.ref, num φ.dot.ref, num φ.d.ref]
/-- The numbers of the references the operations of the least score name, in order. -/
def Refs.bestNums (φ : Refs) : List ℕ :=
  [num φ.am.v0.ref, num φ.am.cst.ref, num φ.am.c.ref, num φ.am.v1_0.ref, num φ.am.v1_1.ref]
/-- The numbers of the references the look-up's operations name, in order. -/
def Refs.rowNums (φ : Refs) : List ℕ :=
  [num φ.tk.c.ref, num φ.tk.v0.ref, num φ.tk.v1.ref, num φ.tk.c_0.ref, num φ.tk.v2.ref, num φ.tk.v3.ref,
    num φ.tk.call0.v0.ref, num φ.tk.v5.ref, num φ.tk.c_1.ref, num φ.tk.c_2.ref, num φ.tk.v6.ref, num φ.tk.v7.ref,
    num φ.tk.v8.ref, num φ.tk.v9.ref, num φ.tk.v10.ref, num φ.tk.v11.ref, num φ.tk.c_3.ref, num φ.tk.v12.ref,
    num φ.tk.v13.ref, num φ.tk.v14.ref, num φ.tk.cst.ref, num φ.tk.v15.ref, num φ.tk.v16.ref]
/-- The numbers of the references the first mean's operations name, in order. -/
def Refs.meanNums (φ : Refs) : List ℕ :=
  [num φ.q'.ref, num φ.e1.ref, num φ.s1.ref, num φ.z1.ref, num φ.t1.ref, num φ.n1.ref, num φ.m1.ref]
/-- The numbers of the references the loss's operations name, in order. -/
def Refs.lossNums (φ : Refs) : List ℕ :=
  [num φ.l1.ref, num φ.e2.ref, num φ.s2.ref, num φ.z2.ref, num φ.t2.ref, num φ.n2.ref, num φ.m2.ref, num φ.w.ref,
    num φ.wm.ref, num φ.l'.ref, num φ.r'.ref]

/-- `n` is the last of the numbers before the level's: every list of the level's numbers increases, from `n`, and each
    list's first is above the last of the list before. The level reads numbers up to `n` (the loss, up to its own mean's). -/
structure Refs.Ordered (φ : Refs) (n : ℕ) : Prop where
  book : num bookRef.ref ≤ n
  norms : num normsRef.ref ≤ n
  left : num φ.r.ref ≤ n
  taken : num φ.q.ref ≤ n
  scores : (n :: φ.scoreNums).IsChain (· < ·)
  best : (num φ.d.ref :: φ.bestNums).IsChain (· < ·)
  rows : (num φ.am.v1_1.ref :: φ.rowNums).IsChain (· < ·)
  means : (num φ.tk.v16.ref :: φ.meanNums).IsChain (· < ·)
  means_losses : num φ.m1.ref < num φ.l1.ref
  loss : num φ.l.ref < num φ.l1.ref
  losses : φ.lossNums.IsChain (· < ·)

/-! ### What each line leaves -/

section Left

variable {φ : Refs} {n : ℕ} (h : φ.Ordered n) (V : Valuation τ sig (Elt F)) {T : BufTy} (z : TRef sig T)

include h

/-- The scores' line leaves the scores. -/
theorem scores_left : rd φ.d (after (scoreOps φ) V) = scoresOf (rd φ.r V) (rd normsRef V) (rd bookRef V) := by
  have h1 := h.book; have h2 := h.norms; have h3 := h.left; have h4 := h.scores
  simp only [Refs.scoreNums, List.isChain_cons_cons, List.isChain_singleton, and_true] at h4
  simp (disch := omega) only [scoreOps, after_cons, after_nil, rd_nullary, rd_unary, rd_binary, rd_nullary_ne, rd_unary_ne,
    rd_binary_ne]
  rfl

/-- The scores' line leaves every earlier buffer. -/
theorem scores_ne (hz : num z.ref ≤ n) : rd z (after (scoreOps φ) V) = rd z V := by
  have h4 := h.scores
  simp only [Refs.scoreNums, List.isChain_cons_cons, List.isChain_singleton, and_true] at h4
  simp (disch := omega) only [scoreOps, after_cons, after_nil, rd_nullary_ne, rd_unary_ne, rd_binary_ne]

/-- The line of the least score leaves its position. -/
theorem best_left : rd φ.am.v1_1 (after (bestOps φ.d φ.am) V) = bestOf (rd φ.d V) := by
  have h4 := h.best
  simp only [Refs.bestNums, List.isChain_cons_cons, List.isChain_singleton, and_true] at h4
  simp (disch := omega) only [bestOps, after_cons, after_nil, rd_nullary, rd_quaternary, rd_nullary_ne, rd_quaternary_ne]
  rfl

/-- The line of the least score leaves every earlier buffer. -/
theorem best_ne (hz : num z.ref ≤ num φ.d.ref) : rd z (after (bestOps φ.d φ.am) V) = rd z V := by
  have h4 := h.best
  simp only [Refs.bestNums, List.isChain_cons_cons, List.isChain_singleton, and_true] at h4
  simp (disch := omega) only [bestOps, after_cons, after_nil, rd_nullary_ne, rd_quaternary_ne]

/-- The look-up's line leaves the rows. -/
theorem rows_left : rd φ.tk.v16 (after (rowOps bookRef φ.am.v1_1 φ.tk) V) = rowsOf (rd bookRef V) (rd φ.am.v1_1 V) := by
  have h1 := h.book; have h2 := h.scores; have h3 := h.best; have h4 := h.rows
  simp only [Refs.scoreNums, Refs.bestNums, Refs.rowNums, List.isChain_cons_cons, List.isChain_singleton, and_true]
    at h2 h3 h4
  have hb : num bookRef.ref < num φ.am.v1_1.ref := by omega
  clear h1 h2 h3
  simp (disch := omega) only [rowOps, after_cons, after_nil, rd_nullary, rd_unary, rd_binary, rd_ternary, rd_nullary_ne,
    rd_unary_ne, rd_binary_ne, rd_ternary_ne, rowsOf, insideOf, startOf]

/-- The look-up's line leaves every earlier buffer. -/
theorem rows_ne (hz : num z.ref ≤ num φ.am.v1_1.ref) : rd z (after (rowOps bookRef φ.am.v1_1 φ.tk) V) = rd z V := by
  have h4 := h.rows
  simp only [Refs.rowNums, List.isChain_cons_cons, List.isChain_singleton, and_true] at h4
  simp (disch := omega) only [rowOps, after_cons, after_nil, rd_nullary_ne, rd_unary_ne, rd_binary_ne, rd_ternary_ne]

/-- The first mean's line leaves what is taken with the rows added. -/
theorem means_taken (hq : num φ.q.ref ≤ num φ.tk.v16.ref) : rd φ.q' (after (meanOps φ) V) = addf (rd φ.q V) (rd φ.tk.v16 V) := by
  have h4 := h.means
  simp only [Refs.meanNums, List.isChain_cons_cons, List.isChain_singleton, and_true] at h4
  simp (disch := omega) only [meanOps, after_cons, after_nil, rd_nullary, rd_binary, rd_nullary_ne, rd_binary_ne]

/-- The first mean's line leaves the mean. -/
theorem means_left (hr : num φ.r.ref ≤ num φ.tk.v16.ref) : rd φ.m1 (after (meanOps φ) V) = meanOf (rd φ.tk.v16 V) (rd φ.r V) := by
  have h4 := h.means
  simp only [Refs.meanNums, List.isChain_cons_cons, List.isChain_singleton, and_true] at h4
  simp (disch := omega) only [meanOps, after_cons, after_nil, rd_nullary, rd_binary, rd_nullary_ne, rd_binary_ne]
  rfl

/-- The first mean's line leaves every earlier buffer. -/
theorem means_ne (hz : num z.ref ≤ num φ.tk.v16.ref) : rd z (after (meanOps φ) V) = rd z V := by
  have h4 := h.means
  simp only [Refs.meanNums, List.isChain_cons_cons, List.isChain_singleton, and_true] at h4
  simp (disch := omega) only [meanOps, after_cons, after_nil, rd_nullary_ne, rd_binary_ne]

/-- The loss's line leaves every earlier buffer. -/
theorem losses_ne (hz : num z.ref < num φ.l1.ref) : rd z (after (lossOps φ) V) = rd z V := by
  have h4 := h.losses
  simp only [Refs.lossNums, List.isChain_cons_cons, List.isChain_singleton, and_true] at h4
  simp (disch := omega) only [lossOps, after_cons, after_nil, rd_nullary_ne, rd_binary_ne]

/-- The loss's line leaves the loss. -/
theorem losses_left (hr : num φ.r.ref < num φ.l1.ref) (hk : num φ.tk.v16.ref < num φ.l1.ref) :
    rd φ.l' (after (lossOps φ) V) = addf (addf (rd φ.l V) (rd φ.m1 V))
      (mulf (constant S_ .f32 0x3E800000#32) (meanOf (rd φ.tk.v16 V) (rd φ.r V))) := by
  have h3 := h.loss; have h4 := h.losses; have h5 := h.means_losses
  simp only [Refs.lossNums, List.isChain_cons_cons, List.isChain_singleton, and_true] at h4
  simp (disch := omega) only [lossOps, after_cons, after_nil, rd_nullary, rd_binary, rd_nullary_ne, rd_binary_ne]
  rfl

/-- The loss's line leaves what is left. -/
theorem losses_rest (hr : num φ.r.ref < num φ.l1.ref) (hk : num φ.tk.v16.ref < num φ.l1.ref) :
    rd φ.r' (after (lossOps φ) V) = subf (rd φ.r V) (rd φ.tk.v16 V) := by
  have h4 := h.losses
  simp only [Refs.lossNums, List.isChain_cons_cons, List.isChain_singleton, and_true] at h4
  simp (disch := omega) only [lossOps, after_cons, after_nil, rd_nullary, rd_binary, rd_nullary_ne, rd_binary_ne]

end Left

/-! ### What a level leaves -/

/-- The codes of the rows of `r` by the book `cb` of squared norms `n`. -/
def codesOf (r : FVec F S65536x32 .f32) (n : FVec F S1024 .f32) (cb : FVec F S1024x32 .f32) : IVec S65536 32 :=
  bestOf (scoresOf r n cb)

/-- The rows of `cb` nearest the rows of `r`. -/
def nearOf (r : FVec F S65536x32 .f32) (n : FVec F S1024 .f32) (cb : FVec F S1024x32 .f32) : FVec F S65536x32 .f32 :=
  rowsOf cb (codesOf r n cb)

/-- A level's line up to its first mean. -/
def front (φ : Refs) : List (HloOp τ sig (Elt F)) :=
  scoreOps φ ++ (bestOps φ.d φ.am ++ (rowOps bookRef φ.am.v1_1 φ.tk ++ meanOps φ))

/-- A level's line, with a constant's line `E` between its first mean and its loss. -/
def line (φ : Refs) (E : List (HloOp τ sig (Elt F))) : List (HloOp τ sig (Elt F)) := front φ ++ (E ++ lossOps φ)

/-- `V'` is what a level leaves of `V`, having begun with the loss `L`: the codes, what is taken, what is left and the loss,
    and every buffer up to number `n` as it was. -/
structure Leaves (φ : Refs) (n : ℕ) (L : FVec F S_ .f32) (V V' : Valuation τ sig (Elt F)) : Prop where
  code : rd φ.am.v1_1 V' = codesOf (rd φ.r V) (rd normsRef V) (rd bookRef V)
  taken : rd φ.q' V' = addf (rd φ.q V) (nearOf (rd φ.r V) (rd normsRef V) (rd bookRef V))
  left : rd φ.r' V' = subf (rd φ.r V) (nearOf (rd φ.r V) (rd normsRef V) (rd bookRef V))
  loss : rd φ.l' V' = lossOf L (meanOf (nearOf (rd φ.r V) (rd normsRef V) (rd bookRef V)) (rd φ.r V))
  same : ∀ {T : BufTy} (z : TRef sig T), num z.ref ≤ n → rd z V' = rd z V

section Whole

variable {φ : Refs} {n : ℕ} (h : φ.Ordered n) (V : Valuation τ sig (Elt F))

include h

/-- A level up to its first mean leaves every earlier buffer. -/
theorem front_ne {T : BufTy} (z : TRef sig T) (hz : num z.ref ≤ n) : rd z (after (front φ) V) = rd z V := by
  have h2 := h.scores; have h3 := h.best; have h4 := h.rows
  simp only [Refs.scoreNums, Refs.bestNums, Refs.rowNums, List.isChain_cons_cons, List.isChain_singleton, and_true]
    at h2 h3 h4
  rw [front, StableHlo.after_append, StableHlo.after_append, StableHlo.after_append,
    means_ne h _ z (by omega), rows_ne h _ z (by omega),
    best_ne h _ z (by omega), scores_ne h _ z hz]

/-- A level up to its first mean leaves the codes. -/
theorem front_code : rd φ.am.v1_1 (after (front φ) V) = codesOf (rd φ.r V) (rd normsRef V) (rd bookRef V) := by
  have h4 := h.rows
  simp only [Refs.rowNums, List.isChain_cons_cons, List.isChain_singleton, and_true] at h4
  rw [front, StableHlo.after_append, StableHlo.after_append, StableHlo.after_append,
    means_ne h _ φ.am.v1_1 (by omega), rows_ne h _ φ.am.v1_1 le_rfl, best_left h, scores_left h, codesOf]

/-- A level up to its first mean leaves the rows. -/
theorem front_rows : rd φ.tk.v16 (after (front φ) V) = nearOf (rd φ.r V) (rd normsRef V) (rd bookRef V) := by
  have h1 := h.book; have h2 := h.scores
  simp only [Refs.scoreNums, List.isChain_cons_cons, List.isChain_singleton, and_true] at h2
  rw [front, StableHlo.after_append, StableHlo.after_append, StableHlo.after_append,
    means_ne h _ φ.tk.v16 le_rfl, rows_left h, best_left h, scores_left h, best_ne h _ bookRef (by omega),
    scores_ne h _ bookRef h1, nearOf, codesOf]

/-- A level up to its first mean leaves what is taken. -/
theorem front_taken : rd φ.q' (after (front φ) V) = addf (rd φ.q V) (nearOf (rd φ.r V) (rd normsRef V) (rd bookRef V)) := by
  have h1 := h.taken; have h2 := h.scores; have h3 := h.best; have h4 := h.rows
  simp only [Refs.scoreNums, Refs.bestNums, Refs.rowNums, List.isChain_cons_cons, List.isChain_singleton, and_true]
    at h2 h3 h4
  have hq : num φ.q.ref ≤ num φ.am.v1_1.ref := by omega
  have e := front_rows h V
  rw [front, StableHlo.after_append, StableHlo.after_append, StableHlo.after_append] at e ⊢
  rw [means_ne h _ φ.tk.v16 le_rfl] at e
  rw [means_taken h _ (by omega), e, rows_ne h _ φ.q hq, best_ne h _ φ.q (by omega), scores_ne h _ φ.q h1]

/-- A level up to its first mean leaves that mean. -/
theorem front_mean : rd φ.m1 (after (front φ) V)
    = meanOf (nearOf (rd φ.r V) (rd normsRef V) (rd bookRef V)) (rd φ.r V) := by
  have h1 := h.left; have h2 := h.scores; have h3 := h.best; have h4 := h.rows
  simp only [Refs.scoreNums, Refs.bestNums, Refs.rowNums, List.isChain_cons_cons, List.isChain_singleton, and_true]
    at h2 h3 h4
  have hq : num φ.r.ref ≤ num φ.am.v1_1.ref := by omega
  have e := front_rows h V
  rw [front, StableHlo.after_append, StableHlo.after_append, StableHlo.after_append] at e ⊢
  rw [means_ne h _ φ.tk.v16 le_rfl] at e
  rw [means_left h _ (by omega), e, rows_ne h _ φ.r hq, best_ne h _ φ.r (by omega), scores_ne h _ φ.r h1]

/-- A level leaves what it should, when the line between its halves leaves every buffer up to the first mean's and sets the
    loss to `L`. -/
theorem line_leaves (E : List (HloOp τ sig (Elt F))) (L : FVec F S_ .f32)
    (hE : ∀ {T : BufTy} (z : TRef sig T) (W : Valuation τ sig (Elt F)), num z.ref ≤ num φ.m1.ref →
      rd z (after E W) = rd z W)
    (hl : rd φ.l (after E (after (front φ) V)) = L) : Leaves φ n L V (after (line φ E) V) := by
  have h1 := h.left; have h2 := h.scores; have h3 := h.best; have h4 := h.rows; have h5 := h.means; have h6 := h.means_losses
  simp only [Refs.scoreNums, Refs.bestNums, Refs.rowNums, Refs.meanNums, List.isChain_cons_cons, List.isChain_singleton,
    and_true] at h2 h3 h4 h5
  have hc : n < num φ.am.v1_1.ref := by omega
  have hk : num φ.am.v1_1.ref < num φ.tk.v16.ref := by omega
  have hm : num φ.tk.v16.ref < num φ.q'.ref := by omega
  have hq : num φ.q'.ref < num φ.m1.ref := by omega
  clear h2 h3 h4 h5
  refine ⟨?_, ?_, ?_, ?_, fun z hz => ?_⟩
  all_goals rw [line, StableHlo.after_append, StableHlo.after_append]
  · rw [losses_ne h _ φ.am.v1_1 (by omega), hE φ.am.v1_1 _ (by omega), front_code h]
  · rw [losses_ne h _ φ.q' (by omega), hE φ.q' _ (by omega), front_taken h]
  · rw [losses_rest h _ (by omega) (by omega), hE φ.r _ (by omega), hE φ.tk.v16 _ (by omega), front_rows h,
      front_ne h _ φ.r h1]
  · rw [losses_left h _ (by omega) (by omega), hE φ.r _ (by omega), hE φ.tk.v16 _ (by omega), hE φ.m1 _ le_rfl, hl,
      front_mean h, front_rows h, front_ne h _ φ.r h1, lossOf]
  · rw [losses_ne h _ z (by omega), hE z _ (by omega), front_ne h _ z hz]

/-- A level whose loss is there beforehand. -/
theorem line_leaves_nil (hl : num φ.l.ref ≤ n) : Leaves φ n (rd φ.l V) V (after (line φ []) V) :=
  line_leaves h V [] _ (fun _ _ _ => rfl) (front_ne h V φ.l hl)

/-- A level whose loss is set in its midst. -/
theorem line_leaves_set (hl : num φ.m1.ref < num φ.l.ref) (L : FVec F S_ .f32) :
    Leaves φ n L V (after (line φ [TRef.nullary φ.l L]) V) :=
  line_leaves h V _ L (fun z W hz => rd_nullary_ne φ.l W z (by omega) L) (by rw [after_cons, after_nil, rd_nullary])

end Whole

end Cert.ReferenceIdeal.Level
-- ==== Proof.RefRun.lean ====
/-
  The reference's run: its line of operations is a preamble, six levels and a closing part, and every fair execution ends with
  each buffer at what the line leaves of the launch's.
-/
module

public import proofs.«01_k».proof.Proof.RefLevel

@[expose] public section

set_option maxRecDepth 8192

noncomputable section

open Idealize.ShloMosaic Idealize.ShloMosaic.TcCoe Idealize.ShloMosaic.StableHlo

namespace Cert.ReferenceIdeal.Level

open Cert.ReferenceIdeal Cert.ReferenceIdeal.Facts₀ Cert.ReferenceIdeal.Facts Rvq.Line

variable {F : FTy → Type} [FloatOps F]

/-! ### The six levels -/

/-- The first level's references. -/
noncomputable def refs0 : Refs :=
  ⟨.of main_v1, .of main_v2, .of main_cst_5, .of main_v5, .of main_cst_1, .of main_v6, .of main_v7, .of main_v8,
    .of main_v9, .of main_v10, .of main_v11, .of main_cst_2, .of main_v12, .of main_v13, .of main_v14, .of main_v15,
    .of main_v16, main_call0, main_call1, .of main_v19, .of main_v20, .of main_v21, .of main_cst_3, .of main_v22,
    .of main_cst_4, .of main_v23, .of main_v24, .of main_v25, .of main_v26, .of main_cst_6, .of main_v27, .of main_cst_7,
    .of main_v28, .of main_cst_8, .of main_v29, .of main_v30, .of main_v31⟩

/-- The second level's references. -/
noncomputable def refs1 : Refs :=
  ⟨.of main_v31, .of main_v19, .of main_v30, .of main_v32, .of main_cst_9, .of main_v33, .of main_v34, .of main_v35,
    .of main_v36, .of main_v37, .of main_v38, .of main_cst_10, .of main_v39, .of main_v40, .of main_v41, .of main_v42,
    .of main_v43, main_call2, main_call3, .of main_v46, .of main_v47, .of main_v48, .of main_cst_11, .of main_v49,
    .of main_cst_12, .of main_v50, .of main_v51, .of main_v52, .of main_v53, .of main_cst_13, .of main_v54,
    .of main_cst_14, .of main_v55, .of main_cst_15, .of main_v56, .of main_v57, .of main_v58⟩

/-- The third level's references. -/
noncomputable def refs2 : Refs :=
  ⟨.of main_v58, .of main_v46, .of main_v57, .of main_v59, .of main_cst_16, .of main_v60, .of main_v61, .of main_v62,
    .of main_v63, .of main_v64, .of main_v65, .of main_cst_17, .of main_v66, .of main_v67, .of main_v68, .of main_v69,
    .of main_v70, main_call4, main_call5, .of main_v73, .of main_v74, .of main_v75, .of main_cst_18, .of main_v76,
    .of main_cst_19, .of main_v77, .of main_v78, .of main_v79, .of main_v80, .of main_cst_20, .of main_v81,
    .of main_cst_21, .of main_v82, .of main_cst_22, .of main_v83, .of main_v84, .of main_v85⟩

/-- The fourth level's references. -/
noncomputable def refs3 : Refs :=
  ⟨.of main_v85, .of main_v73, .of main_v84, .of main_v86, .of main_cst_23, .of main_v87, .of main_v88, .of main_v89,
    .of main_v90, .of main_v91, .of main_v92, .of main_cst_24, .of main_v93, .of main_v94, .of main_v95, .of main_v96,
    .of main_v97, main_call6, main_call7, .of main_v100, .of main_v101, .of main_v102, .of main_cst_25, .of main_v103,
    .of main_cst_26, .of main_v104, .of main_v105, .of main_v106, .of main_v107, .of main_cst_27, .of main_v108,
    .of main_cst_28, .of main_v109, .of main_cst_29, .of main_v110, .of main_v111, .of main_v112⟩

/-- The fifth level's references. -/
noncomputable def refs4 : Refs :=
  ⟨.of main_v112, .of main_v100, .of main_v111, .of main_v113, .of main_cst_30, .of main_v114, .of main_v115,
    .of main_v116, .of main_v117, .of main_v118, .of main_v119, .of main_cst_31, .of main_v120, .of main_v121,
    .of main_v122, .of main_v123, .of main_v124, main_call8, main_call9, .of main_v127, .of main_v128, .of main_v129,
    .of main_cst_32, .of main_v130, .of main_cst_33, .of main_v131, .of main_v132, .of main_v133, .of main_v134,
    .of main_cst_34, .of main_v135, .of main_cst_35, .of main_v136, .of main_cst_36, .of main_v137, .of main_v138,
    .of main_v139⟩

/-- The sixth level's references. -/
noncomputable def refs5 : Refs :=
  ⟨.of main_v139, .of main_v127, .of main_v138, .of main_v140, .of main_cst_37, .of main_v141, .of main_v142,
    .of main_v143, .of main_v144, .of main_v145, .of main_v146, .of main_cst_38, .of main_v147, .of main_v148,
    .of main_v149, .of main_v150, .of main_v151, main_call10, main_call11, .of main_v154, .of main_v155, .of main_v156,
    .of main_cst_39, .of main_v157, .of main_cst_40, .of main_v158, .of main_v159, .of main_v160, .of main_v161,
    .of main_cst_41, .of main_v162, .of main_cst_42, .of main_v163, .of main_cst_43, .of main_v164, .of main_v165,
    .of main_v166⟩

/-- The first level's references are in order. -/
theorem ordered0 : refs0.Ordered 8 := by constructor <;> decide
/-- The second level's references are in order. -/
theorem ordered1 : refs1.Ordered 69 := by constructor <;> decide
/-- The third level's references are in order. -/
theorem ordered2 : refs2.Ordered 129 := by constructor <;> decide
/-- The fourth level's references are in order. -/
theorem ordered3 : refs3.Ordered 189 := by constructor <;> decide
/-- The fifth level's references are in order. -/
theorem ordered4 : refs4.Ordered 249 := by constructor <;> decide
/-- The sixth level's references are in order. -/
theorem ordered5 : refs5.Ordered 309 := by constructor <;> decide

/-! ### The line -/

/-- The operations before the first level: the rows, nothing taken, and the squared norms of the book's rows. -/
noncomputable def preOps : List (HloOp τ sig (Elt F)) :=
  [ unary main_arg0 main_v0 ((transpose S4x128x128x32 [0, 2, 3, 1] · transposes_S4x32x128x128_S4x128x128x32_0_2_3_1) :
      (⟨S4x32x128x128, .f32⟩ : BufTy).Contents (Elt F) → (⟨S4x128x128x32, .f32⟩ : BufTy).Contents (Elt F)),
    reshape main_v0 main_v1 (rfl : (.f32 : EltTy) = .f32) shapeCasts_S4x128x128x32_S65536x32,
    nullary main_cst (constant S_ .f32 0x00000000#32),
    unary main_cst main_v2 (broadcastInDim S65536x32 ![] bcast_S_S65536x32 :
      (⟨S_, .f32⟩ : BufTy).Contents (Elt F) → (⟨S65536x32, .f32⟩ : BufTy).Contents (Elt F)),
    binary main_arg1 main_arg1 main_v3 (mulf : (⟨S1024x32, .f32⟩ : BufTy).Contents (Elt F) →
      (⟨S1024x32, .f32⟩ : BufTy).Contents (Elt F) → (⟨S1024x32, .f32⟩ : BufTy).Contents (Elt F)),
    nullary main_cst_0 (constant S_ .f32 0x00000000#32),
    binary main_v3 main_cst_0 main_v4 ((fun x v => Host.reduceAdd x v reducesTo_S1024x32_S1024_d1 h_S_) :
      (⟨S1024x32, .f32⟩ : BufTy).Contents (Elt F) → (⟨S_, .f32⟩ : BufTy).Contents (Elt F) →
      (⟨S1024, .f32⟩ : BufTy).Contents (Elt F)) ]

/-- The operations after the last level: the image out, and the table of codes. -/
noncomputable def endOps : List (HloOp τ sig (Elt F)) :=
  [ binary main_v154 main_v1 main_v167 (subf : (⟨S65536x32, .f32⟩ : BufTy).Contents (Elt F) →
      (⟨S65536x32, .f32⟩ : BufTy).Contents (Elt F) → (⟨S65536x32, .f32⟩ : BufTy).Contents (Elt F)),
    binary main_v1 main_v167 main_v168 (addf : (⟨S65536x32, .f32⟩ : BufTy).Contents (Elt F) →
      (⟨S65536x32, .f32⟩ : BufTy).Contents (Elt F) → (⟨S65536x32, .f32⟩ : BufTy).Contents (Elt F)),
    reshape main_v168 main_v169 (rfl : (.f32 : EltTy) = .f32) shapeCasts_S65536x32_S4x128x128x32,
    unary main_v169 main_v170 ((transpose S4x32x128x128 [0, 3, 1, 2] · transposes_S4x128x128x32_S4x32x128x128_0_3_1_2) :
      (⟨S4x128x128x32, .f32⟩ : BufTy).Contents (Elt F) → (⟨S4x32x128x128, .f32⟩ : BufTy).Contents (Elt F)),
    TRef.unary (.of main_v17) (.of main_v171) (broadcastInDim S1x65536 ![1] bcast_S65536_S1x65536_1 : IVec S65536 32 → _),
    TRef.unary (.of main_v44) (.of main_v172) (broadcastInDim S1x65536 ![1] bcast_S65536_S1x65536_1 : IVec S65536 32 → _),
    TRef.unary (.of main_v71) (.of main_v173) (broadcastInDim S1x65536 ![1] bcast_S65536_S1x65536_1 : IVec S65536 32 → _),
    TRef.unary (.of main_v98) (.of main_v174) (broadcastInDim S1x65536 ![1] bcast_S65536_S1x65536_1 : IVec S65536 32 → _),
    TRef.unary (.of main_v125) (.of main_v175) (broadcastInDim S1x65536 ![1] bcast_S65536_S1x65536_1 : IVec S65536 32 → _),
    TRef.unary (.of main_v152) (.of main_v176) (broadcastInDim S1x65536 ![1] bcast_S65536_S1x65536_1 : IVec S65536 32 → _),
    nary ![main_v171, main_v172, main_v173, main_v174, main_v175, main_v176] main_v177
      (fun u => (concatenate S6x65536 0 [⟨S1x65536, (u 0 : (⟨S1x65536, .i32⟩ : BufTy).Contents (Elt F))⟩,
        ⟨S1x65536, (u 1 : (⟨S1x65536, .i32⟩ : BufTy).Contents (Elt F))⟩,
        ⟨S1x65536, (u 2 : (⟨S1x65536, .i32⟩ : BufTy).Contents (Elt F))⟩,
        ⟨S1x65536, (u 3 : (⟨S1x65536, .i32⟩ : BufTy).Contents (Elt F))⟩,
        ⟨S1x65536, (u 4 : (⟨S1x65536, .i32⟩ : BufTy).Contents (Elt F))⟩,
        ⟨S1x65536, (u 5 : (⟨S1x65536, .i32⟩ : BufTy).Contents (Elt F))⟩]
        concatenates_S1x65536_S1x65536_S1x65536_S1x65536_S1x65536_S1x65536_S6x65536_d0 :
        (⟨S6x65536, .i32⟩ : BufTy).Contents (Elt F))) ]

/-- The whole line. -/
noncomputable def ops : List (HloOp τ sig (Elt F)) :=
  preOps ++ (line refs0 [TRef.nullary refs0.l (constant S_ .f32 0x00000000#32)] ++ (line refs1 [] ++ (line refs2 [] ++
    (line refs3 [] ++ (line refs4 [] ++ (line refs5 [] ++ endOps))))))

/-! ### The program's four parts are the line, cut -/

/-- The first part ends within the second level. -/
theorem part0_eq (c : Dev nD) : main_part0 (F := F) c
    = seq (preOps ++ (line refs0 [TRef.nullary refs0.l (constant S_ .f32 0x00000000#32)] ++ (line refs1 []).take 44)) := rfl

/-- The second part ends within the fourth level. -/
theorem part1_eq (c : Dev nD) : main_part1 (F := F) c
    = seq ((line refs1 []).drop 44 ++ (line refs2 [] ++ (line refs3 []).take 10)) := rfl

/-- The third part ends within the sixth level. -/
theorem part2_eq (c : Dev nD) : main_part2 (F := F) c
    = seq ((line refs3 []).drop 10 ++ (line refs4 [] ++ (line refs5 []).take 2)) := rfl

/-- The fourth part is the rest. -/
theorem part3_eq (c : Dev nD) : main_part3 (F := F) c = seq ((line refs5 []).drop 2 ++ endOps) := rfl

/-- The program is the line. -/
theorem main_eq (c : Dev nD) : main (F := F) c = seq ops := by
  have e : (ops : List (HloOp τ sig (Elt F)))
      = (preOps ++ (line refs0 [TRef.nullary refs0.l (constant S_ .f32 0x00000000#32)] ++ (line refs1 []).take 44))
        ++ (((line refs1 []).drop 44 ++ (line refs2 [] ++ (line refs3 []).take 10))
        ++ (((line refs3 []).drop 10 ++ (line refs4 [] ++ (line refs5 []).take 2)) ++ ((line refs5 []).drop 2 ++ endOps))) := by
    have t (l : List (HloOp τ sig (Elt F))) (n : ℕ) (k : List (HloOp τ sig (Elt F))) :
        l.take n ++ (l.drop n ++ k) = l ++ k := by rw [← List.append_assoc, List.take_append_drop]
    simp only [List.append_assoc, t]
    rfl
  rw [e, seq_append, seq_append _ (((line refs3 []).drop 10 ++ _) ++ _), seq_append _ ((line refs5 []).drop 2 ++ endOps),
    ← part0_eq c, ← part1_eq c, ← part2_eq c, ← part3_eq c]
  rfl

/-! ### The run -/

/-- A level's operations use the device's buffers. -/
theorem line_sub (φ : Refs) (E : List (HloOp τ sig (Elt F))) (hE : E.Forall fun op => op.bufs ⊆ tcRefs τ sig) :
    (line φ E).Forall fun op => op.bufs ⊆ tcRefs τ sig := by
  simp only [line, front, scoreOps, bestOps, rowOps, meanOps, lossOps, List.forall_append, List.forall_cons, List.Forall,
    TRef.nullary, TRef.unary, TRef.binary, TRef.ternary, TRef.quaternary, nullary_bufs_sub, unary_bufs_sub, binary_bufs_sub,
    ternary_bufs_sub, quaternary_bufs_sub, hE, and_self]

/-- The line's operations use the device's buffers. -/
theorem ops_sub : (ops : List (HloOp τ sig (Elt F))).Forall fun op => op.bufs ⊆ tcRefs τ sig := by
  have h := fun φ => line_sub (F := F) φ [] trivial
  have h0 := line_sub (F := F) refs0 [TRef.nullary refs0.l (constant S_ .f32 0x00000000#32)]
    (nullary_bufs_sub ..)
  simp only [ops, List.forall_append, h, h0, and_true, true_and]
  constructor
  · simp only [preOps, List.forall_cons, List.Forall, nullary_bufs_sub, unary_bufs_sub, binary_bufs_sub, reshape_bufs_sub,
      and_self]
  · simp only [endOps, List.forall_cons, List.Forall, TRef.unary, unary_bufs_sub, binary_bufs_sub, reshape_bufs_sub,
      nary_bufs_sub, and_self]

/-- No operation of the line leaves a buffer's contents undetermined. -/
theorem ops_fresh : ∀ op ∈ (ops : List (HloOp τ sig (Elt F))), op.fresh = ∅ :=
  List.forall_iff_forall_mem.1 (forall_fresh_of_map rfl)

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Every fair execution ends with each buffer at what the line leaves of the launch's. -/
theorem run_line (m : (ℓ : Loc nD τ sig) → Buf (Elt F) ℓ) (ρ : Dev nD → PrngReg) :
    θ_run defs (onTc (τ := τ) main) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ fun _ => ops_fresh

/-! ### What the preamble and the closing part leave -/

section Ends

variable (V : Valuation τ sig (Elt F))

/-- The image as rows. -/
def pixOf (x : FVec F S4x32x128x128 .f32) : FVec F S65536x32 .f32 :=
  shapeCast S65536x32 (transpose S4x128x128x32 [0, 2, 3, 1] x transposes_S4x32x128x128_S4x128x128x32_0_2_3_1)
    shapeCasts_S4x128x128x32_S65536x32

/-- Rows as an image. -/
def imgOf (x : FVec F S65536x32 .f32) : FVec F S4x32x128x128 .f32 :=
  transpose S4x32x128x128 [0, 3, 1, 2] (shapeCast S4x128x128x32 x shapeCasts_S65536x32_S4x128x128x32)
    transposes_S4x128x128x32_S4x32x128x128_0_3_1_2

/-- The table of six levels' codes. -/
def tableOf (u : Fin 6 → IVec S65536 32) : IVec S6x65536 32 :=
  concatenate S6x65536 0
    [⟨S1x65536, broadcastInDim S1x65536 ![1] bcast_S65536_S1x65536_1 (u 0)⟩,
      ⟨S1x65536, broadcastInDim S1x65536 ![1] bcast_S65536_S1x65536_1 (u 1)⟩,
      ⟨S1x65536, broadcastInDim S1x65536 ![1] bcast_S65536_S1x65536_1 (u 2)⟩,
      ⟨S1x65536, broadcastInDim S1x65536 ![1] bcast_S65536_S1x65536_1 (u 3)⟩,
      ⟨S1x65536, broadcastInDim S1x65536 ![1] bcast_S65536_S1x65536_1 (u 4)⟩,
      ⟨S1x65536, broadcastInDim S1x65536 ![1] bcast_S65536_S1x65536_1 (u 5)⟩]
    concatenates_S1x65536_S1x65536_S1x65536_S1x65536_S1x65536_S1x65536_S6x65536_d0

/-- The preamble leaves the image as rows. -/
theorem pre_rows : rd refs0.r (after preOps V) = pixOf (V (Proc.devRef .tc main_arg0)) := by
  show after preOps V (Proc.devRef .tc main_v1) = _
  unfold preOps
  after_results
  rfl

/-- The preamble leaves zeros taken. -/
theorem pre_taken : rd refs0.q (after preOps V)
    = broadcastInDim S65536x32 ![] bcast_S_S65536x32 (constant S_ .f32 0x00000000#32) := by
  show after preOps V (Proc.devRef .tc main_v2) = _
  unfold preOps
  after_results

/-- The preamble leaves the squared norms of the book's rows. -/
theorem pre_norms : rd normsRef (after preOps V) = normsOf (V (Proc.devRef .tc main_arg1)) := by
  show after preOps V (Proc.devRef .tc main_v4) = _
  unfold preOps
  after_results
  rfl

/-- The preamble leaves the image. -/
theorem pre_img : after preOps V (Proc.devRef .tc main_arg0) = V (Proc.devRef .tc main_arg0) := by
  unfold preOps
  after_results

/-- The preamble leaves the book. -/
theorem pre_book : after preOps V (Proc.devRef .tc main_arg1) = V (Proc.devRef .tc main_arg1) := by
  unfold preOps
  after_results

/-- The closing part leaves the image out. -/
theorem end_img : after endOps V (Proc.devRef .tc main_v170)
    = imgOf (addf (rd refs0.r V) (subf (rd refs5.q' V) (rd refs0.r V))) := by
  show _ = imgOf (addf (V (Proc.devRef .tc main_v1)) (subf (V (Proc.devRef .tc main_v154)) (V (Proc.devRef .tc main_v1))))
  unfold endOps
  after_results
  rfl

/-- The closing part leaves the loss. -/
theorem end_loss : after endOps V (Proc.devRef .tc main_v165) = rd refs5.l' V := by
  show _ = V (Proc.devRef .tc main_v165)
  unfold endOps
  after_results

/-- The closing part leaves the image. -/
theorem end_arg0 : after endOps V (Proc.devRef .tc main_arg0) = V (Proc.devRef .tc main_arg0) := by
  unfold endOps
  after_results

/-- The closing part leaves the book. -/
theorem end_arg1 : after endOps V (Proc.devRef .tc main_arg1) = V (Proc.devRef .tc main_arg1) := by
  unfold endOps
  after_results

/-- The closing part leaves the table of codes. -/
theorem end_table : after endOps V (Proc.devRef .tc main_v177)
    = tableOf ![rd refs0.am.v1_1 V, rd refs1.am.v1_1 V, rd refs2.am.v1_1 V, rd refs3.am.v1_1 V, rd refs4.am.v1_1 V,
        rd refs5.am.v1_1 V] := by
  unfold endOps
  after_results
  rfl

end Ends

/-! ### The whole line's values -/

section Values

variable (x : FVec F S4x32x128x128 .f32) (cb : FVec F S1024x32 .f32)

/-- What is left of the rows after `l` levels. -/
def leftAt : ℕ → FVec F S65536x32 .f32
  | 0 => pixOf x
  | l + 1 => subf (leftAt l) (nearOf (leftAt l) (normsOf cb) cb)

/-- The rows the book gives at level `l`. -/
def nearAt (l : ℕ) : FVec F S65536x32 .f32 := nearOf (leftAt x cb l) (normsOf cb) cb

/-- What is taken by the first `l` levels. -/
def takenAt : ℕ → FVec F S65536x32 .f32
  | 0 => broadcastInDim S65536x32 ![] bcast_S_S65536x32 (constant S_ .f32 0x00000000#32)
  | l + 1 => addf (takenAt l) (nearAt x cb l)

/-- The codes of level `l`. -/
def codesAt (l : ℕ) : IVec S65536 32 := codesOf (leftAt x cb l) (normsOf cb) cb

/-- The loss of the first `l` levels. -/
def lossAt : ℕ → FVec F S_ .f32
  | 0 => constant S_ .f32 0x00000000#32
  | l + 1 => lossOf (lossAt l) (meanOf (nearAt x cb l) (leftAt x cb l))

/-- The valuation after `l` levels, what is left being in `r` and what is taken in `q`. -/
structure After (l : ℕ) (r q : TRef sig ⟨S65536x32, .f32⟩) (V : Valuation τ sig (Elt F)) : Prop where
  left : rd r V = leftAt x cb l
  taken : rd q V = takenAt x cb l
  img : V (Proc.devRef .tc main_arg0) = x
  book : rd bookRef V = cb
  norms : rd normsRef V = normsOf cb
  pix : rd refs0.r V = pixOf x

/-- The preamble's valuation. -/
theorem after_pre (V : Valuation τ sig (Elt F)) (hx : V (Proc.devRef .tc main_arg0) = x)
    (hc : V (Proc.devRef .tc main_arg1) = cb) : After x cb 0 refs0.r refs0.q (after preOps V) := by
  subst hx hc
  exact ⟨pre_rows V, pre_taken V, pre_img V, pre_book V, pre_norms V, pre_rows V⟩

variable {x cb} {φ : Refs} {n l : ℕ} {L : FVec F S_ .f32} {V V' : Valuation τ sig (Elt F)}

/-- A level takes the valuation of `l` levels to that of one more. -/
theorem After.next (h : After x cb l φ.r φ.q V) (hn : 8 ≤ n) (w : Leaves φ n L V V') :
    After x cb (l + 1) φ.r' φ.q' V' := by
  refine ⟨?_, ?_, ?_, ?_, ?_, ?_⟩
  · rw [w.left, h.left, h.norms, h.book, leftAt]
  · rw [w.taken, h.taken, h.left, h.norms, h.book, takenAt, nearAt]
  · exact (w.same (TRef.of main_arg0 : TRef sig ⟨S4x32x128x128, .f32⟩) (le_trans (by decide) hn)).trans h.img
  · exact (w.same bookRef (le_trans (by decide) hn)).trans h.book
  · exact (w.same normsRef (le_trans (by decide) hn)).trans h.norms
  · exact (w.same refs0.r (le_trans (by decide) hn)).trans h.pix

/-- A level leaves its codes. -/
theorem After.code (h : After x cb l φ.r φ.q V) (w : Leaves φ n L V V') : rd φ.am.v1_1 V' = codesAt x cb l := by
  rw [w.code, h.left, h.norms, h.book, codesAt]

/-- A level leaves its loss. -/
theorem After.loss (h : After x cb l φ.r φ.q V) (w : Leaves φ n (lossAt x cb l) V V') : rd φ.l' V' = lossAt x cb (l + 1) := by
  rw [w.loss, h.left, h.norms, h.book, lossAt, nearAt]

/-- A level whose loss is there beforehand: all it leaves. -/
theorem After.level (h : After x cb l φ.r φ.q V) (ho : φ.Ordered n) (hn : 8 ≤ n) (hl : num φ.l.ref ≤ n)
    (e : rd φ.l V = lossAt x cb l) :
    After x cb (l + 1) φ.r' φ.q' (after (line φ []) V) ∧ rd φ.am.v1_1 (after (line φ []) V) = codesAt x cb l
      ∧ rd φ.l' (after (line φ []) V) = lossAt x cb (l + 1)
      ∧ ∀ {T : BufTy} (z : TRef sig T), num z.ref ≤ n → rd z (after (line φ []) V) = rd z V := by
  have w : Leaves φ n (lossAt x cb l) V (after (line φ []) V) := e ▸ line_leaves_nil ho V hl
  exact ⟨h.next hn w, h.code w, h.loss w, w.same⟩

/-- What the whole line leaves: the image out, the loss and the table of codes, and the arguments as they were. -/
theorem ops_values (V : Valuation τ sig (Elt F)) (hx : V (Proc.devRef .tc main_arg0) = x)
    (hc : V (Proc.devRef .tc main_arg1) = cb) :
    after ops V (Proc.devRef .tc main_v170) = imgOf (addf (pixOf x) (subf (takenAt x cb 6) (pixOf x)))
      ∧ after ops V (Proc.devRef .tc main_v165) = lossAt x cb 6
      ∧ after ops V (Proc.devRef .tc main_v177) = tableOf (fun l => codesAt x cb l.val)
      ∧ after ops V (Proc.devRef .tc main_arg0) = x
      ∧ after ops V (Proc.devRef .tc main_arg1) = cb := by
  simp only [ops, StableHlo.after_append]
  have a0 := after_pre x cb V hx hc
  generalize after preOps V = V0 at a0 ⊢
  have w0 : Leaves refs0 8 (lossAt x cb 0) V0 _ := line_leaves_set ordered0 V0 (by decide) (constant S_ .f32 0x00000000#32)
  have a1 := a0.next le_rfl w0
  have c0 := a0.code w0
  have l0 := a0.loss w0
  clear w0
  generalize after (line refs0 [TRef.nullary refs0.l (constant S_ .f32 0x00000000#32)]) V0 = V1 at a1 c0 l0 ⊢
  obtain ⟨a2, c1, l1, s1⟩ := After.level (φ := refs1) (l := 1) a1 ordered1 (by decide) (by decide) l0
  generalize after (line refs1 _) V1 = V2 at a2 c1 l1 s1 ⊢
  obtain ⟨a3, c2, l2, s2⟩ := After.level (φ := refs2) (l := 2) a2 ordered2 (by decide) (by decide) l1
  generalize after (line refs2 _) V2 = V3 at a3 c2 l2 s2 ⊢
  obtain ⟨a4, c3, l3, s3⟩ := After.level (φ := refs3) (l := 3) a3 ordered3 (by decide) (by decide) l2
  generalize after (line refs3 _) V3 = V4 at a4 c3 l3 s3 ⊢
  obtain ⟨a5, c4, l4, s4⟩ := After.level (φ := refs4) (l := 4) a4 ordered4 (by decide) (by decide) l3
  generalize after (line refs4 _) V4 = V5 at a5 c4 l4 s4 ⊢
  obtain ⟨a6, c5, l5, s5⟩ := After.level (φ := refs5) (l := 5) a5 ordered5 (by decide) (by decide) l4
  generalize after (line refs5 _) V5 = V6 at a6 c5 l5 s5 ⊢
  rw [end_img, end_loss, end_table, end_arg0, end_arg1, a6.pix, a6.taken, l5, a6.img]
  refine ⟨rfl, rfl, ?_, rfl, a6.book⟩
  rw [c5, s5 refs4.am.v1_1 (by decide), c4, s5 refs3.am.v1_1 (by decide), s4 refs3.am.v1_1 (by decide), c3,
    s5 refs2.am.v1_1 (by decide), s4 refs2.am.v1_1 (by decide), s3 refs2.am.v1_1 (by decide), c2,
    s5 refs1.am.v1_1 (by decide), s4 refs1.am.v1_1 (by decide), s3 refs1.am.v1_1 (by decide),
    s2 refs1.am.v1_1 (by decide), c1,
    s5 refs0.am.v1_1 (by decide), s4 refs0.am.v1_1 (by decide), s3 refs0.am.v1_1 (by decide),
    s2 refs0.am.v1_1 (by decide), s1 refs0.am.v1_1 (by decide), c0]
  exact congrArg tableOf (funext fun l => by fin_cases l <;> rfl)

end Values

/-! ### The reference's run -/

/-- Every fair execution of the reference ends with the image out, the loss and the table of codes it should, the arguments as
    they were and every counter at zero. -/
theorem run (m : (ℓ : Loc nD τ sig) → Buf (Elt F) ℓ) (ρ : Dev nD → PrngReg) :
    θ_run defs (onTc (τ := τ) main) ⟨m, fun _ => 0, ρ⟩ fun r =>
      (∀ c : Dev nD,
        r.2.mem ((c.tc : Thread nD τ).loc main_v170)
          = imgOf (addf (pixOf (m ((c.tc : Thread nD τ).loc main_arg0)))
              (subf (takenAt (m ((c.tc : Thread nD τ).loc main_arg0)) (m ((c.tc : Thread nD τ).loc main_arg1)) 6)
                (pixOf (m ((c.tc : Thread nD τ).loc main_arg0)))))
        ∧ r.2.mem ((c.tc : Thread nD τ).loc main_v165)
          = lossAt (m ((c.tc : Thread nD τ).loc main_arg0)) (m ((c.tc : Thread nD τ).loc main_arg1)) 6
        ∧ r.2.mem ((c.tc : Thread nD τ).loc main_v177)
          = tableOf (fun l => codesAt (m ((c.tc : Thread nD τ).loc main_arg0)) (m ((c.tc : Thread nD τ).loc main_arg1)) l.val)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine (θ_run defs (onTc (τ := τ) main) _).mono (fun r h => ⟨fun c => ?_, ?_⟩) (run_line m ρ)
  · have e := ops_values (launchContents m c) rfl rfl
    exact ⟨(h c _).trans e.1, (h c _).trans e.2.1, (h c _).trans e.2.2.1, (h c _).trans e.2.2.2.1, (h c _).trans e.2.2.2.2⟩
  · exact Idealize.ShloMosaic.sem_eq_zero_of_no_sems (by decide) r.2

end Cert.ReferenceIdeal.Level
-- ==== Proof.RefValue.lean ====
/-
  The reference's level at the extended reals, element by element: the scores are the distances to the book, the code is the
  first nearest row's number, and the row looked up is that row.
-/
module

public import proofs.«01_k».proof.Proof.RefRun
public import proofs.«01_k».proof.Proof.Spec
public import proofs.«01_k».proof.Proof.Words
public import Idealize.ShloMosaic.Lib.Pointwise
public import Idealize.ShloMosaic.Lib.Routing.OpsPair
public import Idealize.ShloMosaic.Lib.Routing.Ops

@[expose] public section

set_option maxRecDepth 16384

noncomputable section

open Idealize.ShloMosaic

namespace Cert.ReferenceIdeal.Level

open Cert.ReferenceIdeal Cert.ReferenceIdeal.Facts₀ Cert.ReferenceIdeal.Facts

/-- Row `n` of a block of rows. -/
def rowAt (r : FVec Ideal S65536x32 .f32) (n : Fin 65536) : Rvq.Row := fun j => r (ix2 n j)

/-- The book. -/
def bookAt (cb : FVec Ideal S1024x32 .f32) : Rvq.Book := fun k j => cb (ix2 k j)

/-! ### The scores -/

/-- The scores are the distances to the book. -/
theorem scoresOf_apply (r : FVec Ideal S65536x32 .f32) (cb : FVec Ideal S1024x32 .f32) (n : Fin 65536) (k : Fin 1024) :
    scoresOf r (normsOf cb) cb (ix2 n k) = Rvq.dist (bookAt cb) (rowAt r n) k := by
  rw [Rvq.dist, Rvq.two_mul_inner]
  pointwise [scoresOf, normsOf, rowAt, bookAt]
  rw [Rvq.Words.ofBits_two]

/-! ### The first least score -/

/-- `p` comes before or with `q`: by value, then by number. -/
def Before (p q : EReal × BitVec 32) : Prop := p.1 < q.1 ∨ p.1 = q.1 ∧ p.2.toInt ≤ q.2.toInt

/-- Coming before is transitive. -/
theorem Before.trans {p q r : EReal × BitVec 32} (h : Before p q) (k : Before q r) : Before p r := by
  rcases h with h | ⟨h, h'⟩ <;> rcases k with k | ⟨k, k'⟩
  · exact .inl (h.trans k)
  · exact .inl (k ▸ h)
  · exact .inl (h ▸ k)
  · exact .inr ⟨h.trans k, h'.trans k'⟩

/-- Every pair comes with itself. -/
theorem Before.refl (p : EReal × BitVec 32) : Before p p := .inr ⟨rfl, le_rfl⟩

/-- The reduction's body keeps one of its two pairs, and the one it keeps comes before both. -/
theorem reducer_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨x, i⟩ := a
  obtain ⟨y, j⟩ := b
  have e : reducer_argmin_f32_i32 (F := Ideal) (x, i) (y, j)
      = (if x < y then x else y, if x < y ∨ x = y ∧ i.toInt < j.toInt then i else j) := by
    by_cases h1 : x < y <;> by_cases h2 : x = y <;> by_cases h3 : i.toInt < j.toInt <;>
      simp [reducer_argmin_f32_i32, Ideal.cmpf_def, Ideal.cmp, h1, h2, h3, Scalar.select, IntOp.ori, IntOp.andi, IntOp.cmpi,
        BitVec.slt]
  rw [e]
  clear e
  by_cases h1 : x < y
  · rw [if_pos h1, if_pos (.inl h1)]
    exact ⟨.inl rfl, Before.refl _, .inl h1⟩
  · rw [if_neg h1]
    by_cases h2 : x = y ∧ i.toInt < j.toInt
    · rw [if_pos (.inr h2), ← h2.1]
      exact ⟨.inl rfl, Before.refl _, .inr ⟨rfl, h2.2.le⟩⟩
    · rw [if_neg (by tauto)]
      refine ⟨.inr rfl, ?_, Before.refl _⟩
      rcases lt_or_eq_of_le (not_lt.mp h1) with h | h
      · exact .inl h
      · exact .inr ⟨h, not_lt.mp fun h' => h2 ⟨h.symm, h'⟩⟩

/-- The reduction's fold keeps the first pair or one of the list's, and it comes before them all. -/
theorem foldl_spec (l : List (EReal × BitVec 32)) (p : EReal × BitVec 32) :
    (l.foldl (reducer_argmin_f32_i32 (F := Ideal)) p = p ∨ l.foldl (reducer_argmin_f32_i32 (F := Ideal)) p ∈ l)
      ∧ Before (l.foldl (reducer_argmin_f32_i32 (F := Ideal)) p) p
      ∧ ∀ q ∈ l, Before (l.foldl (reducer_argmin_f32_i32 (F := Ideal)) p) q := by
  induction l generalizing p with
  | nil => exact ⟨.inl rfl, Before.refl _, fun q hq => absurd hq List.not_mem_nil⟩
  | cons a l ih =>
    obtain ⟨h, hp, ha⟩ := reducer_spec p a
    obtain ⟨i1, i2, i3⟩ := ih (reducer_argmin_f32_i32 (F := Ideal) p a)
    rw [List.foldl_cons]
    refine ⟨?_, i2.trans hp, fun q hq => ?_⟩
    · rcases i1 with i1 | i1
      · rw [i1]
        rcases h with h | h
        · exact .inl h
        · exact .inr (List.mem_cons.mpr (.inl h))
      · exact .inr (List.mem_cons_of_mem _ i1)
    · rcases List.mem_cons.mp hq with rfl | hq
      · exact i2.trans ha
      · exact i3 q hq

/-- The number of a word below 1024. -/
theorem toInt_ofNat_fin (k : Fin 1024) : (BitVec.ofNat 32 k.val).toInt = k.val := by
  have := k.isLt
  rw [BitVec.toInt_eq_toNat_of_lt (by rw [BitVec.toNat_ofNat]; omega), BitVec.toNat_ofNat]
  omega

/-- The pairs folded over for a row are its scores with their columns' numbers. -/
theorem mem_fiber {N M : ℕ} (d : FVec Ideal ⟨2, ![N, M]⟩ .f32) (h : (⟨2, ![N, M]⟩ : Shape).ReducesTo [1] ⟨1, ![N]⟩) (n : Fin N)
    (q : EReal × BitVec 32) :
    q ∈ Host.argReduceFiber d (iotaInDim ⟨2, ![N, M]⟩ 32 1) h (ix1 n)
      ↔ ∃ k : Fin M, q = (d (ix2 n k), BitVec.ofNat 32 k.val) := by
  simp only [Host.argReduceFiber, List.mem_map, List.mem_filter, List.mem_finRange, true_and, decide_eq_true_eq]
  constructor
  · rintro ⟨i, hi, rfl⟩
    obtain ⟨k, hk⟩ := (h.fiber_r2_a1 (ix1 n) _).mp hi
    refine ⟨k, ?_⟩
    rw [← hk]
    rfl
  · rintro ⟨k, rfl⟩
    refine ⟨(⟨2, ![N, M]⟩ : Shape).rowMajor (ix2 n k), ?_, ?_⟩
    · rw [Equiv.symm_apply_apply]
      exact (h.fiber_r2_a1 (ix1 n) _).mpr ⟨k, rfl⟩
    · rw [Equiv.symm_apply_apply]
      rfl

/-- The fold over a row's scores, from infinity and zero, ends with the first least score's column. -/
theorem fold_first {l : List (EReal × BitVec 32)} (d : Fin 1024 → EReal)
    (hmem : ∀ q, q ∈ l ↔ ∃ k : Fin 1024, q = (d k, BitVec.ofNat 32 k.val)) :
    (l.foldl (reducer_argmin_f32_i32 (F := Ideal)) (⊤, 0#32)).2 = BitVec.ofNat 32 (Rvq.firstMin d).val := by
  obtain ⟨h1, -, h3⟩ := foldl_spec l (⊤, 0#32)
  generalize l.foldl (reducer_argmin_f32_i32 (F := Ideal)) (⊤, 0#32) = p at h1 h3
  have key : ∃ k : Fin 1024, p = (d k, BitVec.ofNat 32 k.val) := by
    rcases h1 with rfl | h1
    · refine ⟨0, ?_⟩
      rcases h3 _ ((hmem _).mpr ⟨0, rfl⟩) with h0 | h0
      · exact absurd h0 not_top_lt
      · exact Prod.ext h0.1 rfl
    · exact (hmem _).mp h1
  obtain ⟨k, rfl⟩ := key
  refine congrArg (fun i : Fin 1024 => BitVec.ofNat 32 i.val) (Rvq.eq_firstMin _ k (fun j => ?_) fun j hj => ?_)
  · rcases h3 _ ((hmem _).mpr ⟨j, rfl⟩) with h | h
    · exact h.le
    · exact h.1.le
  · rcases h3 _ ((hmem _).mpr ⟨j, rfl⟩) with h | h
    · exact h
    · have := h.2
      simp only [toInt_ofNat_fin] at this
      have := Fin.lt_def.mp hj
      omega

/-- An arg-min over the columns of a table, from infinity and zero, is the first least score's column. -/
theorem firstOf_apply {N : ℕ} (d : FVec Ideal ⟨2, ![N, 1024]⟩ .f32) (x : FVec Ideal S_ .f32) (c : IVec S_ 32)
    (h : (⟨2, ![N, 1024]⟩ : Shape).ReducesTo [1] ⟨1, ![N]⟩) (hu : 0 < S_.numel) (hx : x (Shape.Idx.first hu) = (⊤ : EReal))
    (hc : c (Shape.Idx.first hu) = 0#32) (n : Fin N) :
    firstOf d x c h hu (ix1 n) = BitVec.ofNat 32 (Rvq.firstMin fun k : Fin 1024 => d (ix2 n k)).val := by
  rw [firstOf, Ideal.argReduce_eq_reduce2, Host.reduce2_eq_foldl_fiber, hx, hc]
  exact fold_first (fun k => d (ix2 n k)) (mem_fiber d h n)

/-- The position of a row's least score is the first nearest's. -/
theorem bestOf_apply (d : FVec Ideal S65536x1024 .f32) (n : Fin 65536) :
    bestOf d (ix1 n) = BitVec.ofNat 32 (Rvq.firstMin fun k : Fin 1024 => d (ix2 n k)).val :=
  firstOf_apply d _ _ reducesTo_S65536x1024_S65536_d1 h_S_ Rvq.Words.ofBits_top rfl n

/-! ### The rows looked up -/

/-- Where a position is a number in the book, the look-up starts there. -/
theorem startOf_apply (idx : IVec S65536 32) (n : Fin 65536) (k : Fin 1024) (h : idx (ix1 n) = BitVec.ofNat 32 k.val) :
    startOf idx (ix2 n 0) = BitVec.ofNat 32 k.val := by
  pointwise [startOf, h]
  exact Routing.wrap_of_lt _ _ (by have := k.isLt; rw [BitVec.toNat_ofNat]; omega)

/-- Where a position is a number in the book, it is inside. -/
theorem insideOf_apply (s : IVec S65536x1 32) (n : Fin 65536) (k : Fin 1024) (h : s (ix2 n 0) = BitVec.ofNat 32 k.val) :
    insideOf s (ix1 n) = 1#1 := by
  pointwise [insideOf, h]
  rw [Finset.univ_unique, Finset.fold_singleton]
  have hk := k.isLt
  have e := toInt_ofNat_fin k
  change IntOp.andi (IntOp.andi (IntOp.cmpi .sge (s (ix2 n 0)) 0#32) (IntOp.cmpi .sle (s (ix2 n 0)) 1023#32)) 1#1 = 1#1
  rw [h]
  have h1 : (0 : ℤ) ≤ (BitVec.ofNat 32 k.val).toInt := by omega
  have h2 : (BitVec.ofNat 32 k.val).toInt ≤ 1023 := by omega
  simp [IntOp.cmpi, IntOp.andi, BitVec.sle, h1, h2]

/-- Where a position is a number in the book, the row is the book's. -/
theorem rowsOf_apply (cb : FVec Ideal S1024x32 .f32) (idx : IVec S65536 32) (n : Fin 65536) (k : Fin 1024)
    (h : idx (ix1 n) = BitVec.ofNat 32 k.val) (j : Fin 32) : rowsOf cb idx (ix2 n j) = cb (ix2 k j) := by
  have hs := startOf_apply idx n k h
  have hi := insideOf_apply (startOf idx) n k hs
  have hg : Host.gather gather_S1024x32_S65536x1_S65536x32_1_0_n_n_0_1_132 cb (startOf idx) (ix2 n j) = cb (ix2 k j) :=
    Routing.gather_row _ rfl rfl rfl rfl rfl cb (startOf idx) n j k hs (by norm_num)
  pointwise [rowsOf, hg, hi]

/-! ### One level -/

/-- The codes of a block of rows are its rows' first nearest. -/
theorem codesOf_apply (r : FVec Ideal S65536x32 .f32) (cb : FVec Ideal S1024x32 .f32) (n : Fin 65536) :
    codesOf r (normsOf cb) cb (ix1 n) = BitVec.ofNat 32 (Rvq.nearest (bookAt cb) (rowAt r n)).val := by
  have e : (fun k : Fin 1024 => scoresOf r (normsOf cb) cb (ix2 n k)) = Rvq.dist (bookAt cb) (rowAt r n) :=
    funext fun k => scoresOf_apply r cb n k
  rw [codesOf, bestOf_apply, e, Rvq.nearest]

/-- The rows of the book nearest a block of rows. -/
theorem nearOf_apply (r : FVec Ideal S65536x32 .f32) (cb : FVec Ideal S1024x32 .f32) (n : Fin 65536) (j : Fin 32) :
    nearOf r (normsOf cb) cb (ix2 n j) = bookAt cb (Rvq.nearest (bookAt cb) (rowAt r n)) j :=
  rowsOf_apply cb _ n _ (codesOf_apply r cb n) j

/-! ### The levels -/

section Levels

variable (x : FVec Ideal S4x32x128x128 .f32) (cb : FVec Ideal S1024x32 .f32)

/-- What is left of a row after `l` levels. -/
theorem rowAt_leftAt (n : Fin 65536) (l : ℕ) : rowAt (leftAt x cb l) n = Rvq.left (bookAt cb) (rowAt (pixOf x) n) l := by
  induction l with
  | zero => rfl
  | succ l ih =>
    funext j
    rw [Rvq.left, ← ih]
    exact congrArg (leftAt x cb l (ix2 n j) - ·) (nearOf_apply (leftAt x cb l) cb n j)

/-- The codes of level `l`. -/
theorem codesAt_apply (n : Fin 65536) (l : ℕ) :
    codesAt x cb l (ix1 n) = BitVec.ofNat 32 (Rvq.code (bookAt cb) (rowAt (pixOf x) n) l).val := by
  rw [codesAt, codesOf_apply, rowAt_leftAt, Rvq.code]

/-- The rows of the book named at level `l`. -/
theorem nearAt_apply (n : Fin 65536) (l : ℕ) (j : Fin 32) :
    nearAt x cb l (ix2 n j) = bookAt cb (Rvq.code (bookAt cb) (rowAt (pixOf x) n) l) j := by
  rw [nearAt, nearOf_apply, rowAt_leftAt, Rvq.code]

/-- What is taken of a row by the first `l` levels. -/
theorem takenAt_apply (n : Fin 65536) (l : ℕ) (j : Fin 32) :
    takenAt x cb l (ix2 n j) = Rvq.taken (bookAt cb) (rowAt (pixOf x) n) l j := by
  induction l with
  | zero => exact Ideal.ofBits_zero_f32
  | succ l ih =>
    have e : takenAt x cb (l + 1) (ix2 n j) = takenAt x cb l (ix2 n j) + nearAt x cb l (ix2 n j) := rfl
    rw [e, ih, nearAt_apply]
    rfl

/-- The squared error of all the rows at level `l`. -/
def errAt (l : ℕ) : EReal := ∑ n : Fin 65536, Rvq.err (bookAt cb) (rowAt (pixOf x) n) l

/-- A level's squared error is not negative. -/
theorem errAt_nonneg (l : ℕ) : 0 ≤ errAt x cb l := Finset.sum_nonneg fun _ _ => Rvq.err_nonneg _ _ _

/-- The mean of a block of squares is their sum's share. -/
theorem meanOf_apply (e r : FVec Ideal S65536x32 .f32) (i : S_.Idx) :
    meanOf e r i = (∑ n : Fin 65536, ∑ j : Fin 32, (e (ix2 n j) - r (ix2 n j)) * (e (ix2 n j) - r (ix2 n j)))
      * ((1 / 2097152 : ℝ) : EReal) := by
  pointwise [meanOf]
  rw [Rvq.Words.ofBits_count, Ideal.div_coe (by norm_num)]

/-- A level's mean is its squared error's share. -/
theorem mean_level (l : ℕ) (i : S_.Idx) :
    meanOf (nearAt x cb l) (leftAt x cb l) i = errAt x cb l * ((1 / 2097152 : ℝ) : EReal) := by
  have e : ∀ n j, leftAt x cb l (ix2 n j) = Rvq.left (bookAt cb) (rowAt (pixOf x) n) l j :=
    fun n j => congrFun (rowAt_leftAt x cb n l) j
  rw [meanOf_apply]
  simp only [nearAt_apply, e]
  rfl

/-- The loss of the first `l` levels is their squared errors by one factor. -/
theorem lossAt_apply (l : ℕ) (i : S_.Idx) :
    lossAt x cb l i = (∑ v ∈ Finset.range l, errAt x cb v) * ((1.25 / 2097152 : ℝ) : EReal) := by
  induction l with
  | zero =>
    rw [Finset.range_zero, Finset.sum_empty, zero_mul]
    exact Ideal.ofBits_zero_f32
  | succ l ih =>
    have e : lossAt x cb (l + 1) i = (lossAt x cb l i + meanOf (nearAt x cb l) (leftAt x cb l) i)
        + Ideal.ofBits .f32 0x3E800000#32 * meanOf (nearAt x cb l) (leftAt x cb l) i := rfl
    have hs : 0 ≤ ∑ v ∈ Finset.range l, errAt x cb v := Finset.sum_nonneg fun v _ => errAt_nonneg x cb v
    have hc : ((1.25 / 2097152 : ℝ) : EReal) = ((1 / 2097152 : ℝ) : EReal) + ((1 / 2097152 : ℝ) : EReal) * ((0.25 : ℝ) : EReal) := by
      norm_cast
      norm_num
    have ha : (0 : EReal) ≤ ((1 / 2097152 : ℝ) : EReal) := by
      norm_cast
      norm_num
    have hb : (0 : EReal) ≤ ((1 / 2097152 : ℝ) : EReal) * ((0.25 : ℝ) : EReal) := by
      norm_cast
      norm_num
    rw [e, ih, mean_level, Rvq.Words.ofBits_quarter, Finset.sum_range_succ, EReal.right_distrib_of_nonneg hs (errAt_nonneg x cb l),
      mul_comm ((0.25 : ℝ) : EReal), mul_assoc (errAt x cb l), add_assoc, ← EReal.left_distrib_of_nonneg ha hb, ← hc]

/-! ### The results -/

/-- Of a finite image, the straight-through result is what is taken. -/
theorem image_apply (hx : ∀ i, ∃ a : ℝ, x i = (a : EReal)) (n : Fin 65536) (j : Fin 32) :
    addf (pixOf x) (subf (takenAt x cb 6) (pixOf x)) (ix2 n j) = Rvq.taken (bookAt cb) (rowAt (pixOf x) n) 6 j := by
  have hp : ∃ a : ℝ, pixOf x (ix2 n j) = (a : EReal) := hx _
  obtain ⟨a, ha⟩ := hp
  have e : addf (pixOf x) (subf (takenAt x cb 6) (pixOf x)) (ix2 n j)
      = pixOf x (ix2 n j) + (takenAt x cb 6 (ix2 n j) - pixOf x (ix2 n j)) := rfl
  rw [e, ha, Rvq.add_sub_cancel_finite, takenAt_apply]

/-- The table of codes, one row per level. -/
theorem tableOf_apply (u : Fin 6 → IVec S65536 32) (l : Fin 6) (n : Fin 65536) : tableOf u (ix2 l n) = u l (ix1 n) := by
  obtain ⟨l, hl⟩ := l
  interval_cases l <;> pointwise [tableOf]

end Levels

end Cert.ReferenceIdeal.Level
-- ==== Proof.Equation.lean ====
/-
  The kernel's three results are the reference's: the image, where the argument is finite; the loss; and the codes.
-/
module

public import proofs.«01_k».proof.Proof.KernelRun
public import proofs.«01_k».proof.Proof.RefValue
public import proofs.«01_k».proof.Defs

@[expose] public section

set_option maxRecDepth 16384

noncomputable section

open Idealize.ShloMosaic Idealize.ShloMosaic.TcCoe Idealize.SL.Sem

namespace Rvq.Equation

open Cert.KernelIdeal.Arrays Cert.KernelIdeal.Tile
open Cert.ReferenceIdeal.Level (pixOf imgOf takenAt lossAt codesAt tableOf)

/-- The precondition's one side condition: a scalar goes into any shape. -/
theorem pre_facts : Cert.Pre_x_finite.Facts where
  bcast_S_S4x32x128x128 := by decide

/-- Where the precondition holds, every element of the image is a real number. -/
theorem finite_of_pre (x : FVec Ideal Cert.KernelIdeal.S4x32x128x128 .f32) (b : FVec Ideal Cert.KernelIdeal.S1024x32 .f32)
    (h : @Cert.Pre_x_finite.fn pre_facts Ideal _ x b = fun _ => 1#1) (i : Cert.KernelIdeal.S4x32x128x128.Idx) :
    ∃ a : ℝ, x i = (a : EReal) := by
  have hi := congrFun h i
  have e : @Cert.Pre_x_finite.fn pre_facts Ideal _ x b i
      = FloatOps.cmpf .olt (FloatOps.absf (x i)) (Ideal.ofBits .f32 0x7F800000#32) := rfl
  rw [e, Rvq.Words.ofBits_top, Ideal.absf_def, Ideal.cmpf_def] at hi
  generalize x i = y at hi
  induction y using EReal.rec with
  | bot => simp [Ideal.cmp] at hi
  | top => simp [Ideal.cmp] at hi
  | coe a => exact ⟨a, rfl⟩

variable (m : (ℓ : Loc Cert.KernelIdeal.nD Cert.KernelIdeal.τ Cert.KernelIdeal.sig) → Buf (Elt Ideal) ℓ)
  (c : Dev Cert.KernelIdeal.nD)

/-- The images are equal. -/
theorem image_eq (hx : ∀ i, ∃ a : ℝ, img m c i = (a : EReal)) :
    imgOf (addf (pixOf (img m c)) (subf (takenAt (img m c) (cbk m c) 6) (pixOf (img m c)))) = imageOut m c := by
  have e : addf (pixOf (img m c)) (subf (takenAt (img m c) (cbk m c) 6) (pixOf (img m c))) = takenArr m c := by
    funext i
    rw [eq_ix2 i]
    exact Cert.ReferenceIdeal.Level.image_apply (img m c) (cbk m c) hx (i 0) (i 1)
  rw [e]
  rfl

/-- The tables of codes are equal. -/
theorem codes_eq : tableOf (fun l => codesAt (img m c) (cbk m c) l.val) = codeArr m c := by
  funext i
  rw [eq_ix2 i]
  exact (Cert.ReferenceIdeal.Level.tableOf_apply _ (i 0) (i 1)).trans
    (Cert.ReferenceIdeal.Level.codesAt_apply (img m c) (cbk m c) (i 1) (i 0).val)

/-- A sum over the tiles' rows is the sum over all the rows. -/
theorem sum_rows (f : Fin 65536 → EReal) : ∑ t : Fin Cert.KernelIdeal.cfg0.N, ∑ i : Fin 1024, f (rowOf t i) = ∑ n, f n := by
  have hN : Cert.KernelIdeal.cfg0.N = 64 := Cert.KernelIdeal.Gen.N_0
  rw [← Fintype.sum_prod_type' (f := fun t i => f (rowOf t i))]
  refine Fintype.sum_equiv (((finCongr hN).prodCongr (Equiv.refl (Fin 1024))).trans
    (finProdFinEquiv.trans (finCongr (by norm_num)))) _ _ fun q => congrArg f (Fin.ext ?_)
  simp only [rowOf, Equiv.trans_apply, finProdFinEquiv_apply_val, finCongr_apply, Fin.val_cast, Equiv.prodCongr_apply,
    Prod.map, Equiv.refl_apply]
  ring

/-- The sum of all the tiles' squared errors is the sum of the levels'. -/
theorem errors_eq : ∑ t : Fin Cert.KernelIdeal.cfg0.N, errOf m c t
    = ∑ v ∈ Finset.range 6, Cert.ReferenceIdeal.Level.errAt (img m c) (cbk m c) v := by
  simp only [errOf_eq]
  rw [Finset.sum_comm]
  exact Finset.sum_congr rfl fun v _ => sum_rows fun n => Rvq.err (book (cbk m c)) (pixRow m c n) v

/-- The losses are equal. -/
theorem loss_eq : lossAt (img m c) (cbk m c) 6 = lossOut m c := by
  funext i
  have e : lossOut m c i = (∑ t : Fin Cert.KernelIdeal.cfg0.N, errOf m c t) * Ideal.ofBits .f32 0x35200000#32 := rfl
  rw [e, Cert.ReferenceIdeal.Level.lossAt_apply, errors_eq, Rvq.Words.ofBits_share]

end Rvq.Equation
-- ==== Proof.lean ====
/-
  The proof of `Cert.Claim`: the two kernels' frames are the generated modules', the reference's frame is in its run, and the
  equation sets the kernel's run beside the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem

/-- The reference runs, leaves its arguments and ends with every counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1))
      ∧ r.2.sem = fun _ => 0) :=
  (θ_run (Cert.ReferenceIdeal.defs (F := Ideal)) (onTc (τ := Cert.ReferenceIdeal.τ) (Cert.ReferenceIdeal.main (F := Ideal)))
    _).mono (fun _ h => ⟨fun c => ⟨(h.1 c).2.2.2.1, (h.1 c).2.2.2.2⟩, h.2⟩) (Cert.ReferenceIdeal.Level.run (F := Ideal) m g)

/-- Of a finite image the kernel's results are the reference's. -/
theorem equation : Cert.algebraic_KernelIdeal_ReferenceIdeal_pre_x_finite (hKernelIdeal := Cert.KernelIdeal.Gen.facts)
    (hReferenceIdeal := Cert.ReferenceIdeal.Gen.facts) (hPre_x_finite := Rvq.Equation.pre_facts) := by
  intro m g m' g' hpre hargs
  refine ⟨fun c => Cert.KernelIdeal.Arrays.imageOut m c, fun c => Cert.KernelIdeal.Arrays.lossOut m c,
    fun c => Cert.KernelIdeal.Arrays.codeArr m c, Cert.KernelIdeal.Arrays.run m g, ?_⟩
  refine (θ_run (Cert.ReferenceIdeal.defs (F := Ideal)) (onTc (τ := Cert.ReferenceIdeal.τ) (Cert.ReferenceIdeal.main (F := Ideal)))
    _).mono (fun r h c => ?_) (Cert.ReferenceIdeal.Level.run (F := Ideal) m' g')
  obtain ⟨h1, h2, h3, h4, h5⟩ := h.1 c
  obtain ⟨a0, a1⟩ := hargs c
  rw [a0, a1] at h1 h2 h3
  exact ⟨h1.trans (Rvq.Equation.image_eq m c (Rvq.Equation.finite_of_pre _ _ (hpre c))), h2.trans (Rvq.Equation.loss_eq m c),
    h3.trans (Rvq.Equation.codes_eq m c), h4, h5⟩

/-- Everything claimed. -/
theorem claim : Cert.Claim :=
  ⟨Cert.Kernel.Gen.facts, Cert.KernelIdeal.Gen.facts, Cert.ReferenceIdeal.Gen.facts, Rvq.Equation.pre_facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    trivial,
    equation⟩

end Cert.Proof

end
